-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x256x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S3x2x256x256 : Shape := ⟨4, ![3, 2, 256, 256]⟩
abbrev S3x8x256 : Shape := ⟨3, ![3, 8, 256]⟩
abbrev S3 : Shape := ⟨1, ![3]⟩
abbrev S_ : Shape := ⟨0, ![]⟩
abbrev S512x512 : Shape := ⟨2, ![512, 512]⟩
abbrev S256x256 : Shape := ⟨2, ![256, 256]⟩
abbrev S256x64 : Shape := ⟨2, ![256, 64]⟩
abbrev S1x256x1x64 : Shape := ⟨4, ![1, 256, 1, 64]⟩
abbrev S256 : Shape := ⟨1, ![256]⟩
abbrev S1x256x256 : Shape := ⟨3, ![1, 256, 256]⟩
abbrev S2x256x256 : Shape := ⟨3, ![2, 256, 256]⟩
abbrev S1x256 : Shape := ⟨2, ![1, 256]⟩
abbrev S8x256 : Shape := ⟨2, ![8, 256]⟩
abbrev S1x2x256x256 : Shape := ⟨4, ![1, 2, 256, 256]⟩
abbrev S1x8x256 : Shape := ⟨3, ![1, 8, 256]⟩
abbrev S1 : Shape := ⟨1, ![1]⟩
abbrev S1x256x64 : Shape := ⟨3, ![1, 256, 64]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S3x2x256x256, .bf16⟩
  | .local _ .vmem, ⟨7, _⟩ => ⟨S3x2x256x256, .bf16⟩
  | .local _ .vmem, ⟨8, _⟩ => ⟨S3x8x256, .f32⟩
  | .local _ .vmem, ⟨9, _⟩ => ⟨S3x8x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_137 : BitVec 32 := 1#32
  let v214 : BitVec 32 := Scalar.xori v2 c1_i32_137
  let c1_i32_149 : BitVec 32 := 1#32
  let v222 : BitVec 32 := Scalar.muli v214 c1_i32_149
  let v223 : BitVec 32 := Scalar.addi c0_i32_150 v222
  v223.toNat
def k0_dev5 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_137 : BitVec 32 := 1#32
  let v214 : BitVec 32 := Scalar.xori v2 c1_i32_137
  let c1_i32_161 : BitVec 32 := 1#32
  let v232 : BitVec 32 := Scalar.muli v214 c1_i32_161
  let v233 : BitVec 32 := Scalar.addi c0_i32_162 v232
  v233.toNat
def k0_dev6 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_216 : BitVec 32 := 3#32
  let v277 : BitVec 32 := Scalar.xori v2 c3_i32_216
  let c1_i32_228 : BitVec 32 := 1#32
  let v285 : BitVec 32 := Scalar.muli v277 c1_i32_228
  let v286 : BitVec 32 := Scalar.addi c0_i32_229 v285
  v286.toNat
def k0_dev7 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_216 : BitVec 32 := 3#32
  let v277 : BitVec 32 := Scalar.xori v2 c3_i32_216
  let c1_i32_240 : BitVec 32 := 1#32
  let v295 : BitVec 32 := Scalar.muli v277 c1_i32_240
  let v296 : BitVec 32 := Scalar.addi c0_i32_241 v295
  v296.toNat
def k0_dev8 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_295 : BitVec 32 := 4#32
  let v340 : BitVec 32 := Scalar.xori v2 c4_i32_295
  let c1_i32_306 : BitVec 32 := 1#32
  let v348 : BitVec 32 := Scalar.muli v340 c1_i32_306
  let v349 : BitVec 32 := Scalar.addi c0_i32_307 v348
  v349.toNat
def k0_dev9 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_295 : BitVec 32 := 4#32
  let v340 : BitVec 32 := Scalar.xori v2 c4_i32_295
  let c1_i32_318 : BitVec 32 := 1#32
  let v358 : BitVec 32 := Scalar.muli v340 c1_i32_318
  let v359 : BitVec 32 := Scalar.addi c0_i32_319 v358
  v359.toNat
def k0_dev10 (d0 : Dev nD) : Nat :=
  let c0_i32_383_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_380_r0 : BitVec 32 := 1#32
  let v470_r0 : BitVec 32 := Scalar.xori v2 c1_i32_380_r0
  let c1_i32_382_r0 : BitVec 32 := 1#32
  let v471_r0 : BitVec 32 := Scalar.muli v470_r0 c1_i32_382_r0
  let v472_r0 : BitVec 32 := Scalar.addi c0_i32_383_r0 v471_r0
  v472_r0.toNat
def k0_dev11 (d0 : Dev nD) : Nat :=
  let c0_i32_387_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_384_r0 : BitVec 32 := 3#32
  let v473_r0 : BitVec 32 := Scalar.xori v2 c3_i32_384_r0
  let c1_i32_386_r0 : BitVec 32 := 1#32
  let v474_r0 : BitVec 32 := Scalar.muli v473_r0 c1_i32_386_r0
  let v475_r0 : BitVec 32 := Scalar.addi c0_i32_387_r0 v474_r0
  v475_r0.toNat
def k0_dev12 (d0 : Dev nD) : Nat :=
  let c0_i32_391_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_388_r0 : BitVec 32 := 4#32
  let v476_r0 : BitVec 32 := Scalar.xori v2 c4_i32_388_r0
  let c1_i32_390_r0 : BitVec 32 := 1#32
  let v477_r0 : BitVec 32 := Scalar.muli v476_r0 c1_i32_390_r0
  let v478_r0 : BitVec 32 := Scalar.addi c0_i32_391_r0 v477_r0
  v478_r0.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x2048x4x64, .f32⟩
  | .hbm, ⟨3, _⟩ => ⟨S2x2048x4x64, .f32⟩
  | .hbm, ⟨4, _⟩ => ⟨S256x512, .f32⟩
  | .hbm, ⟨5, _⟩ => ⟨S2x256x256, .f32⟩
  | .hbm, ⟨6, _⟩ => ⟨S2x256x4x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S256x2048, .i32⟩
  | .hbm, ⟨48, _⟩ => ⟨S256x2048, .i32⟩
  | .hbm, ⟨49, _⟩ => ⟨S256x2048, .i1⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S256x2048, .i1⟩
  | .hbm, ⟨54, _⟩ => ⟨S256x2048, .i1⟩
  | .hbm, ⟨55, _⟩ => ⟨S256x2048, .i32⟩
  | .hbm, ⟨56, _⟩ => ⟨S256x2048, .i32⟩
  | .hbm, ⟨57, _⟩ => ⟨S256x2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x2048, .i32⟩
  | .hbm, ⟨65, _⟩ => ⟨S256x2048, .i32⟩
  | .hbm, ⟨66, _⟩ => ⟨S_, .i32⟩
  | .hbm, ⟨67, _⟩ => ⟨S256x2048, .i32⟩
  | .hbm, ⟨68, _⟩ => ⟨S256x2048, .i1⟩
  | .hbm, ⟨69, _⟩ => ⟨S_, .i32⟩
  | .hbm, ⟨70, _⟩ => ⟨S256x2048, .i32⟩
  | .hbm, ⟨71, _⟩ => ⟨S256x2048, .i1⟩
  | .hbm, ⟨72, _⟩ => ⟨S_, .i32⟩
  | .hbm, ⟨73, _⟩ => ⟨S_, .i1⟩
  | .hbm, ⟨74, _⟩ => ⟨S256x2048, .i1⟩
  | .hbm, ⟨75, _⟩ => ⟨S256x2048, .i1⟩
  | .hbm, ⟨76, _⟩ => ⟨S256x2048, .i1⟩
  | .hbm, ⟨77, _⟩ => ⟨S256x2048, .i32⟩
  | .hbm, ⟨78, _⟩ => ⟨S256x2048, .i32⟩
  | .hbm, ⟨79, _⟩ => ⟨S256x2048, .i32⟩
  | .hbm, ⟨80, _⟩ => ⟨S_, .i32⟩
  | .hbm, ⟨81, _⟩ => ⟨S256x2048, .i32⟩
  | .hbm, ⟨82, _⟩ => ⟨S256x2048, .i1⟩
  | .hbm, ⟨83, _⟩ => ⟨S256x2048, .i1⟩
  | .hbm, ⟨84, _⟩ => ⟨S2x4x256x2048, .f32⟩
  | .hbm, ⟨85, _⟩ => ⟨S_, .f32⟩
  | .hbm, ⟨86, _⟩ => ⟨S2x4x256x2048, .f32⟩
  | .hbm, ⟨87, _⟩ => ⟨S2x4x256x2048, .f32⟩
  | .hbm, ⟨88, _⟩ => ⟨S1x1x256x2048, .i1⟩
  | .hbm, ⟨89, _⟩ => ⟨S_, .f32⟩
  | .hbm, ⟨90, _⟩ => ⟨S_, .f32⟩
  | .hbm, ⟨91, _⟩ => ⟨S2x4x256x2048, .i1⟩
  | .hbm, ⟨92, _⟩ => ⟨S2x4x256x2048, .f32⟩
  | .hbm, ⟨93, _⟩ => ⟨S2x4x256x2048, .f32⟩
  | .hbm, ⟨94, _⟩ => ⟨S_, .f32⟩
  | .hbm, ⟨95, _⟩ => ⟨S2x4x256, .f32⟩
  | .hbm, ⟨96, _⟩ => ⟨S2x4x256x1, .f32⟩
  | .hbm, ⟨97, _⟩ => ⟨S2x4x256x2048, .f32⟩
  | .hbm, ⟨98, _⟩ => ⟨S2x4x256x2048, .f32⟩
  | .hbm, ⟨99, _⟩ => ⟨S2x4x256x2048, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S2x4x256, .f32⟩
  | .hbm, ⟨105, _⟩ => ⟨S2x4x256x1, .f32⟩
  | .hbm, ⟨106, _⟩ => ⟨S_, .f32⟩
  | .hbm, ⟨107, _⟩ => ⟨S_, .f32⟩
  | .hbm, ⟨108, _⟩ => ⟨S2x4x256x1, .i1⟩
  | .hbm, ⟨109, _⟩ => ⟨S2x4x256x1, .f32⟩
  | .hbm, ⟨110, _⟩ => ⟨S2x4x256x1, .f32⟩
  | .hbm, ⟨111, _⟩ => ⟨S2x4x256x2048, .f32⟩
  | .hbm, ⟨112, _⟩ => ⟨S2x4x256x2048, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S2x4x256x2048, .i1⟩
  | .hbm, ⟨117, _⟩ => ⟨S2x4x256x2048, .f32⟩
  | .hbm, ⟨118, _⟩ => ⟨S2x4x256x2048, .f32⟩
  | .hbm, ⟨119, _⟩ => ⟨S2x4x64x256, .f32⟩
  | .hbm, ⟨120, _⟩ => ⟨S2x256x4x64, .f32⟩
  | .hbm, ⟨121, _⟩ => ⟨S2x256x256, .f32⟩
  | .hbm, ⟨122, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdealProto.lean ====
/-
# The butterfly all-reduce: devices, slots, contents and schedule

Eight devices sit at the corners of a cube; at step `s = 0, 1, 2` device `c` exchanges its running
sum with `partner s c = c XOR (1, 3, 4)[s]`, which is an involution without fixed points.

* The entry barrier cell of `c` has three duties of one unit, one per partner; partner `s`'s signal
  hands `c` the slot `s` of both of that partner's receive buffers.
* At step `s` device `c` sends slot `s` of its two send buffers into slot `s` of partner `s`'s two
  receive buffers. Each send cell and each receive cell has one duty of the slot's credit: the send
  cell gives the sender its slot back, the receive cell gives the receiver the slot as landed.
* The exit cell has three duties of one unit, handing over nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option backward.proofsInPublic true

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's part and the exchange's part, with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero. -/
def s₀ : MemSt nD τ sig (Elt F) := ⟨m, fun _ => 0, ρ⟩

/-! ## Partners -/

/-- The device that differs from `c` in the bits of step `s`'s mask. -/
def partner (s : Fin 3) (c : Dev nD) : Dev nD :=
  ⟨(c.val ^^^ (![1, 3, 4] : Fin 3 → ℕ) s) % 8, Nat.mod_lt _ (by decide)⟩

theorem partner_partner (s : Fin 3) (c : Dev nD) : partner s (partner s c) = c := by revert s c; decide

theorem dev1_eq (c : Dev nD) : (⟨k0_dev1 c, k0_dev1_lt c⟩ : Dev nD) = partner 0 c := by revert c; decide +kernel
theorem dev2_eq (c : Dev nD) : (⟨k0_dev2 c, k0_dev2_lt c⟩ : Dev nD) = partner 1 c := by revert c; decide +kernel
theorem dev3_eq (c : Dev nD) : (⟨k0_dev3 c, k0_dev3_lt c⟩ : Dev nD) = partner 2 c := by revert c; decide +kernel
theorem dev4_eq (c : Dev nD) : (⟨k0_dev4 c, k0_dev4_lt c⟩ : Dev nD) = partner 0 c := by revert c; decide +kernel
theorem dev5_eq (c : Dev nD) : (⟨k0_dev5 c, k0_dev5_lt c⟩ : Dev nD) = partner 0 c := by revert c; decide +kernel
theorem dev6_eq (c : Dev nD) : (⟨k0_dev6 c, k0_dev6_lt c⟩ : Dev nD) = partner 1 c := by revert c; decide +kernel
theorem dev7_eq (c : Dev nD) : (⟨k0_dev7 c, k0_dev7_lt c⟩ : Dev nD) = partner 1 c := by revert c; decide +kernel
theorem dev8_eq (c : Dev nD) : (⟨k0_dev8 c, k0_dev8_lt c⟩ : Dev nD) = partner 2 c := by revert c; decide +kernel
theorem dev9_eq (c : Dev nD) : (⟨k0_dev9 c, k0_dev9_lt c⟩ : Dev nD) = partner 2 c := by revert c; decide +kernel
theorem dev10_eq (c : Dev nD) : (⟨k0_dev10 c, k0_dev10_lt c⟩ : Dev nD) = partner 0 c := by revert c; decide +kernel
theorem dev11_eq (c : Dev nD) : (⟨k0_dev11 c, k0_dev11_lt c⟩ : Dev nD) = partner 1 c := by revert c; decide +kernel
theorem dev12_eq (c : Dev nD) : (⟨k0_dev12 c, k0_dev12_lt c⟩ : Dev nD) = partner 2 c := by revert c; decide +kernel

/-! ## The four scratch buffers and their slots -/

/-- The send and receive buffers of the weighted sums (`sC`, `rC`) and of the row sums (`sL`, `rL`). -/
abbrev sC : Memref sig .tc .vmem S3x2x256x256 .bf16 := Memref.whole cc0_scratch0
abbrev rC : Memref sig .tc .vmem S3x2x256x256 .bf16 := Memref.whole cc0_scratch1
abbrev sL : Memref sig .tc .vmem S3x8x256 .f32 := Memref.whole cc0_scratch2
abbrev rL : Memref sig .tc .vmem S3x8x256 .f32 := Memref.whole cc0_scratch3

abbrev offC : Fin 3 → Fin 4 → ℕ := fun | 0 => ![0, 0, 0, 0] | 1 => ![1, 0, 0, 0] | 2 => ![2, 0, 0, 0]
abbrev offL : Fin 3 → Fin 3 → ℕ := fun | 0 => ![0, 0, 0] | 1 => ![1, 0, 0] | 2 => ![2, 0, 0]

theorem inbC (s : Fin 3) : ∀ a, offC s a + S1x2x256x256.size a ≤ S3x2x256x256.size a := by revert s; decide
theorem inbL (s : Fin 3) : ∀ a, offL s a + S1x8x256.size a ≤ S3x8x256.size a := by revert s; decide

/-- Slot `s` of a weighted-sum buffer, of a row-sum buffer. -/
abbrev qC (s : Fin 3) : Rect S3x2x256x256 := Rect.unit (s := S3x2x256x256) (offC s) S1x2x256x256.size (inbC s)
abbrev qL (s : Fin 3) : Rect S3x8x256 := Rect.unit (s := S3x8x256) (offL s) S1x8x256.size (inbL s)

abbrev viewC (M : Memref sig .tc .vmem S3x2x256x256 .bf16) (s : Fin 3) : Memref sig .tc .vmem S2x256x256 .bf16 :=
  (M.slice (qC s) (fun _ => rfl)).squeeze S2x256x256 squeezes_S1x2x256x256_S2x256x256
abbrev viewL (M : Memref sig .tc .vmem S3x8x256 .f32) (s : Fin 3) : Memref sig .tc .vmem S8x256 .f32 :=
  (M.slice (qL s) (fun _ => rfl)).squeeze S8x256 squeezes_S1x8x256_S8x256

section Slots

variable {sh : Shape} {e : EltTy}

/-- The elements of `M` in the rectangle `r`, on device `c`, at contents `f`. -/
def slot (M : Memref sig .tc .vmem sh e) (r : Rect sh) (c : Dev nD) (f : Buf (Elt F) ((M.access r).loc (c : Thread nD τ))) : sProp 𝕄 :=
  (M.access r).loc (c : Thread nD τ) ↦[(M.access r).set]{fullShare} f

/-- The same elements reading `v`. -/
def held (M : Memref sig .tc .vmem sh e) (r : Rect sh) (c : Dev nD) (v : r.shape.Idx → Elt F e) : sProp 𝕄 :=
  iprop(∃ f : Buf (Elt F) ((M.access r).loc (c : Thread nD τ)), ⌜(M.access r).read (Elt F) f = v⌝ ∗ slot M r c f)

/-- The same elements at some contents. -/
def loose (M : Memref sig .tc .vmem sh e) (r : Rect sh) (c : Dev nD) : sProp 𝕄 :=
  iprop(∃ f : Buf (Elt F) ((M.access r).loc (c : Thread nD τ)), slot M r c f)

omit [FloatOps F] in
instance slot_storable (M : Memref sig .tc .vmem sh e) (r : Rect sh) (c : Dev nD) (f) :
    BI.Storable (upEmb : UEmb _ 𝕄) (slot (F := F) M r c f) := by unfold slot; infer_instance
omit [FloatOps F] in
instance held_storable (M : Memref sig .tc .vmem sh e) (r : Rect sh) (c : Dev nD) (v) :
    BI.Storable (upEmb : UEmb _ 𝕄) (held (F := F) M r c v) := by unfold held; infer_instance
omit [FloatOps F] in
instance loose_storable (M : Memref sig .tc .vmem sh e) (r : Rect sh) (c : Dev nD) :
    BI.Storable (upEmb : UEmb _ 𝕄) (loose (F := F) M r c) := by unfold loose; infer_instance

omit [FloatOps F] in
theorem held_loose (M : Memref sig .tc .vmem sh e) (r : Rect sh) (c : Dev nD) (v : r.shape.Idx → Elt F e) :
    held M r c v ⊢ (loose M r c : sProp 𝕄) := by
  unfold held loose
  iintro ⟨%f, -, H⟩
  iexists f
  iexact H

end Slots

/-! ## The semaphores -/

/-- The entry barrier's semaphore and the exit barrier's. -/
abbrev barS : Sem sig := (SemArray.scalar (sig.barrier 0 rfl) : Sems sig S_).sem
abbrev extS : Sem sig := (cc0_scoped0 : Sems sig S_).sem

abbrev offS : Fin 3 → Fin 1 → ℕ := fun | 0 => ![0] | 1 => ![1] | 2 => ![2]
theorem inbS (s : Fin 3) : ∀ a, offS s a + S1.size a ≤ S3.size a := by revert s; decide
/-- Entry `s` of a row of three transfer semaphores. -/
abbrev entry (A : DmaSems sig S3) (s : Fin 3) : DmaSem sig :=
  ((A.slice (Rect.unit (s := S3) (offS s) S1.size (inbS s))).squeeze S_ squeezes_S1_S_).sem

/-- The transfer semaphores: weighted sums sent and received, row sums sent and received. -/
abbrev aC (s : Fin 3) : DmaSem sig := entry cc0_scratch4 s
abbrev bC (s : Fin 3) : DmaSem sig := entry cc0_scratch5 s
abbrev aL (s : Fin 3) : DmaSem sig := entry cc0_scratch6 s
abbrev bL (s : Fin 3) : DmaSem sig := entry cc0_scratch7 s

theorem aC_val (s : Fin 3) : (aC s).val = 6 + s.val := by revert s; decide
theorem bC_val (s : Fin 3) : (bC s).val = 9 + s.val := by revert s; decide
theorem aL_val (s : Fin 3) : (aL s).val = 12 + s.val := by revert s; decide
theorem bL_val (s : Fin 3) : (bL s).val = 15 + s.val := by revert s; decide
theorem ext_ne_bar : extS ≠ barS := by decide

/-- The fourteen semaphores of the exchange: entry barrier, exit barrier, then the four rows of three. -/
abbrev csem : Fin 14 → SemLoc sig := fun
  | 0 => .reg barS | 1 => .reg extS
  | 2 => .dma (aC 0) | 3 => .dma (aC 1) | 4 => .dma (aC 2)
  | 5 => .dma (bC 0) | 6 => .dma (bC 1) | 7 => .dma (bC 2)
  | 8 => .dma (aL 0) | 9 => .dma (aL 1) | 10 => .dma (aL 2)
  | 11 => .dma (bL 0) | 12 => .dma (bL 1) | 13 => .dma (bL 2)
abbrev kcell (ck : Dev nD × Fin 14) : GSem nD τ sig := ((ck.1 : Thread nD τ), csem ck.2)

theorem csem_inj : Function.Injective csem := by decide

/-- The credit of one slot. -/
def nC : ℕ := (viewC rC 0).view.dmaCredit
def nL : ℕ := (viewL rL 0).view.dmaCredit
theorem nC_pos : 0 < nC := View.dmaCredit_pos _ (by decide)
theorem nL_pos : 0 < nL := View.dmaCredit_pos _ (by decide)
theorem creditC (M : Memref sig .tc .vmem S3x2x256x256 .bf16) (s : Fin 3) : (viewC M s).view.dmaCredit = nC := rfl
theorem creditL (M : Memref sig .tc .vmem S3x8x256 .f32) (s : Fin 3) : (viewL M s).view.dmaCredit = nL := rfl

end Cert.KernelIdeal.Net
-- ==== Proof.KernelIdealSched.lean ====
/-
# What each device computes and sends, and the schedule of the fourteen cells

`ctx k c`, `rows k c` are device `c`'s running sums after `k` exchanges, as the body's own payloads
of what it loaded and received; `sentC s c`, `sentL s c` what it stores in slot `s` of its send
buffers. The schedule hands over slots with these contents.
-/
module

public import proofs.«01_k».proof.Proof.KernelIdealProto

@[expose] public section

set_option backward.proofsInPublic true

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged inputs and the vectors loaded from them -/

abbrev gX : Memref sig .tc .vmem S2x256x512 .f32 := Memref.whole cc0_stg0_0
abbrev gQ : Memref sig .tc .vmem S512x256 .f32 := Memref.whole cc0_stg1_0
abbrev gK : Memref sig .tc .vmem S2x256x4x64 .f32 := Memref.whole cc0_stg2_0
abbrev gV : Memref sig .tc .vmem S2x256x4x64 .f32 := Memref.whole cc0_stg3_0
abbrev gO : Memref sig .tc .vmem S256x512 .f32 := Memref.whole cc0_stg4_0
abbrev gR : Memref sig .tc .vmem S2x256x512 .f32 := Memref.whole cc0_stg5_0

def inX (c : Dev nD) : (cc0_stg0_0 : Ref sig .tc).ty.Contents (Elt F) :=
  (win0_0.blk (0 : Fin 1)).view.read (Elt F) ((s₀ m ρ).mem ((c : Thread nD τ).loc main_arg0))
def inQ (c : Dev nD) : (cc0_stg1_0 : Ref sig .tc).ty.Contents (Elt F) :=
  (win0_1.blk (0 : Fin 1)).view.read (Elt F) ((s₀ m ρ).mem ((c : Thread nD τ).loc main_arg1))
def inK (c : Dev nD) : (cc0_stg2_0 : Ref sig .tc).ty.Contents (Elt F) :=
  (win0_2.blk (0 : Fin 1)).view.read (Elt F) ((s₀ m ρ).mem ((c : Thread nD τ).loc main_arg2))
def inV (c : Dev nD) : (cc0_stg3_0 : Ref sig .tc).ty.Contents (Elt F) :=
  (win0_3.blk (0 : Fin 1)).view.read (Elt F) ((s₀ m ρ).mem ((c : Thread nD τ).loc main_arg3))
def inO (c : Dev nD) : (cc0_stg4_0 : Ref sig .tc).ty.Contents (Elt F) :=
  (win0_4.blk (0 : Fin 1)).view.read (Elt F) ((s₀ m ρ).mem ((c : Thread nD τ).loc main_arg4))

abbrev qX : Rect S2x256x512 := Rect.unit (s := S2x256x512) ![0, 0, 0] S2x256x512.size inb_S2x256x512_S2x256x512_0_0_0
abbrev qQ : Rect S512x256 := Rect.unit (s := S512x256) ![0, 0] S512x256.size inb_S512x256_S512x256_0_0
abbrev qO : Rect S256x512 := Rect.unit (s := S256x512) ![0, 0] S256x512.size inb_S256x512_S256x512_0_0

/-- Head `h` of batch `b` of a block of keys or values. -/
abbrev offH : Fin 2 → Fin 4 → Fin 4 → ℕ := fun
  | 0, 0 => ![0, 0, 0, 0] | 0, 1 => ![0, 0, 1, 0] | 0, 2 => ![0, 0, 2, 0] | 0, 3 => ![0, 0, 3, 0]
  | 1, 0 => ![1, 0, 0, 0] | 1, 1 => ![1, 0, 1, 0] | 1, 2 => ![1, 0, 2, 0] | 1, 3 => ![1, 0, 3, 0]
theorem inbH (b : Fin 2) (h : Fin 4) : ∀ a, offH b h a + S1x256x1x64.size a ≤ S2x256x4x64.size a := by revert b h; decide
abbrev qH (b : Fin 2) (h : Fin 4) : Rect S2x256x4x64 := Rect.unit (s := S2x256x4x64) (offH b h) S1x256x1x64.size (inbH b h)

def ldX (c : Dev nD) : Vec F S2x256x512 .f32 := gX.view.readAt (Elt F) qX.toLoadRect (inX m ρ c)
def ldQ (c : Dev nD) : Vec F S512x256 .f32 := gQ.view.readAt (Elt F) qQ.toLoadRect (inQ m ρ c)
def ldK (b : Fin 2) (h : Fin 4) (c : Dev nD) : Vec F S1x256x1x64 .f32 := gK.view.readAt (Elt F) (qH b h).toLoadRect (inK m ρ c)
def ldV (b : Fin 2) (h : Fin 4) (c : Dev nD) : Vec F S1x256x1x64 .f32 := gV.view.readAt (Elt F) (qH b h).toLoadRect (inV m ρ c)
def ldO (c : Dev nD) : Vec F S256x512 .f32 := gO.view.readAt (Elt F) qO.toLoadRect (inO m ρ c)

/-! ## The device's own partial sums -/

/-- The device's position on the axis, as the word the body computes. -/
def pos (c : Dev nD) : BitVec 32 := Scalar.remsi (Scalar.divsi (Dev.word c) 1#32) 8#32

def iota0 : IVec S256x256 32 := iota .tc S256x256 32 [0] iota_S256x256_d0_w32
def msk (c : Dev nD) : IVec S256x256 1 := k0_pay6 (pos c) iota0 64#32 k0_pay2 k0_pay3 0#32
def rem3 (c : Dev nD) : IVec S256x256 32 := k0_pay7 (pos c) iota0 64#32 k0_pay2 k0_pay3 0#32
/-- The mask of the device's block of scores. -/
def keep (c : Dev nD) : IVec S256x256 1 := k0_pay8 (msk c) (rem3 c)
/-- The queries. -/
def qry (c : Dev nD) : FVec F S512x256 .f32 := k0_pay1 (ldX m ρ c) (ldQ m ρ c)

def zero2 : FVec F S256x256 .f32 := constant S256x256 .f32 0x00000000#32

def row00 (c : Dev nD) : FVec F S256 .f32 := k0_pay10 (qry m ρ c) (msk c) (rem3 c) (ldK m ρ 0 0 c)
def row01 (c : Dev nD) : FVec F S256 .f32 := k0_pay15 (keep c) (k0_pay12 (qry m ρ c)) (k0_pay13 (ldK m ρ 0 1 c)) zero2
def row02 (c : Dev nD) : FVec F S256 .f32 := k0_pay18 (qry m ρ c) (keep c) (ldK m ρ 0 2 c)
def row03 (c : Dev nD) : FVec F S256 .f32 := k0_pay21 (k0_pay20 (qry m ρ c) (keep c) (ldK m ρ 0 3 c))
def row10 (c : Dev nD) : FVec F S256 .f32 := k0_pay24 (qry m ρ c) (keep c) (ldK m ρ 1 0 c)
def row11 (c : Dev nD) : FVec F S256 .f32 := k0_pay27 (qry m ρ c) (keep c) (ldK m ρ 1 1 c)
def row12 (c : Dev nD) : FVec F S256 .f32 := k0_pay29 (qry m ρ c) (keep c) (ldK m ρ 1 2 c)
def row13 (c : Dev nD) : FVec F S256 .f32 := k0_pay31 (qry m ρ c) (keep c) (ldK m ρ 1 3 c)

/-- Batch 0 of the weighted sums. -/
def ctxB0 (c : Dev nD) : FVec F S256x256 .f32 :=
  k0_pay22 (k0_pay11 (qry m ρ c) (msk c) (rem3 c) (ldK m ρ 0 0 c) (ldV m ρ 0 0 c))
    (k0_pay16 (keep c) (k0_pay12 (qry m ρ c)) (k0_pay13 (ldK m ρ 0 1 c)) zero2 (ldV m ρ 0 1 c))
    (k0_pay19 (qry m ρ c) (keep c) (ldK m ρ 0 2 c) (ldV m ρ 0 2 c))
    (k0_pay20 (qry m ρ c) (keep c) (ldK m ρ 0 3 c)) (ldV m ρ 0 3 c)

def ctx0 (c : Dev nD) : FVec F S2x256x256 .f32 :=
  k0_pay32 (qry m ρ c) (keep c) (ctxB0 m ρ c) (k0_pay25 (qry m ρ c) (keep c) (ldK m ρ 1 0 c) (ldV m ρ 1 0 c))
    (k0_pay26 (qry m ρ c) (keep c) (ldK m ρ 1 1 c)) (ldV m ρ 1 1 c) (ldK m ρ 1 2 c) (ldV m ρ 1 2 c) (ldK m ρ 1 3 c) (ldV m ρ 1 3 c)
def rows0 (c : Dev nD) : FVec F S8x256 .f32 :=
  k0_pay34 (row01 m ρ c) (row02 m ρ c) (row03 m ρ c) (row10 m ρ c) (row11 m ρ c) (row12 m ρ c) (row13 m ρ c) (k0_pay33 (row00 m ρ c))

/-! ## The three exchanges -/

def sentC0 (c : Dev nD) : FVec F S1x2x256x256 .bf16 := k0_pay35 (ctx0 m ρ c)
def sentL0 (c : Dev nD) : FVec F S1x8x256 .f32 :=
  k0_pay36 (row01 m ρ c) (row02 m ρ c) (row03 m ρ c) (row10 m ρ c) (row11 m ρ c) (row12 m ρ c) (row13 m ρ c) (k0_pay33 (row00 m ρ c))
def ctx1 (c : Dev nD) : FVec F S2x256x256 .f32 := k0_pay37 (ctx0 m ρ c) (sentC0 m ρ (partner 0 c))
def rows1 (c : Dev nD) : FVec F S8x256 .f32 := k0_pay38 (rows0 m ρ c) (sentL0 m ρ (partner 0 c))
def sentC1 (c : Dev nD) : FVec F S1x2x256x256 .bf16 := k0_pay39 (ctx0 m ρ c) (sentC0 m ρ (partner 0 c))
def sentL1 (c : Dev nD) : FVec F S1x8x256 .f32 := k0_pay40 (rows0 m ρ c) (sentL0 m ρ (partner 0 c))
def ctx2 (c : Dev nD) : FVec F S2x256x256 .f32 := k0_pay42 (ctx1 m ρ c) (k0_pay41 (sentC1 m ρ (partner 1 c)))
def rows2 (c : Dev nD) : FVec F S8x256 .f32 := k0_pay43 (rows1 m ρ c) (sentL1 m ρ (partner 1 c))
def sentC2 (c : Dev nD) : FVec F S1x2x256x256 .bf16 := k0_pay44 (ctx1 m ρ c) (k0_pay41 (sentC1 m ρ (partner 1 c)))
def sentL2 (c : Dev nD) : FVec F S1x8x256 .f32 := k0_pay45 (rows1 m ρ c) (sentL1 m ρ (partner 1 c))

/-- What device `c` leaves in its output. -/
def outv (c : Dev nD) : FVec F S2x256x512 .f32 :=
  k0_pay52 (k0_pay46 (ctx2 m ρ c) (sentC2 m ρ (partner 2 c))) (k0_pay47 (rows2 m ρ c) (sentL2 m ρ (partner 2 c)))
    (k0_pay48 (ctx2 m ρ c) (rows2 m ρ c) (sentC2 m ρ (partner 2 c)) (sentL2 m ρ (partner 2 c)))
    (k0_pay49 (ctx2 m ρ c) (rows2 m ρ c) (sentC2 m ρ (partner 2 c)) (sentL2 m ρ (partner 2 c)))
    (k0_pay50 (ctx2 m ρ c) (sentC2 m ρ (partner 2 c))) (k0_pay51 (rows2 m ρ c) (sentL2 m ρ (partner 2 c))) (ldO m ρ c)

def sentC : Fin 3 → Dev nD → FVec F S1x2x256x256 .bf16 := fun | 0 => sentC0 m ρ | 1 => sentC1 m ρ | 2 => sentC2 m ρ
def sentL : Fin 3 → Dev nD → FVec F S1x8x256 .f32 := fun | 0 => sentL0 m ρ | 1 => sentL1 m ρ | 2 => sentL2 m ρ

/-! ## The schedule -/

/-- Partner `s`'s entry signal: slot `s` of its receive buffers. -/
def barPay (s : Fin 3) (c : Dev nD) : sProp 𝕄 :=
  iprop(loose rC (qC s) (partner s c) ∗ loose rL (qL s) (partner s c))
def backC (s : Fin 3) (c : Dev nD) : sProp 𝕄 := held sC (qC s) c (sentC m ρ s c)
def backL (s : Fin 3) (c : Dev nD) : sProp 𝕄 := held sL (qL s) c (sentL m ρ s c)
def landC (s : Fin 3) (c : Dev nD) : sProp 𝕄 := held rC (qC s) c (sentC m ρ s (partner s c))
def landL (s : Fin 3) (c : Dev nD) : sProp 𝕄 := held rL (qL s) c (sentL m ρ s (partner s c))

/-- The step a transfer semaphore serves. -/
def stepOf (q : DmaSem sig) : Fin 3 := ⟨q.val % 3, Nat.mod_lt _ (by decide)⟩

def dutiesOf : SemLoc sig → Finset (Fin 3)
  | .reg _ => Finset.univ
  | .dma q => if 6 ≤ q.val then {0} else ∅
def amountOf : SemLoc sig → ℕ
  | .reg _ => 1
  | .dma q => if q.val < 12 then nC else nL
def payOf (c : Dev nD) : SemLoc sig → Fin 3 → sProp 𝕄
  | .reg q, d => if q = barS then barPay d c else iprop(emp)
  | .dma q, _ =>
    if q.val / 3 = 2 then backC m ρ (stepOf q) c
    else if q.val / 3 = 3 then landC m ρ (stepOf q) c
    else if q.val / 3 = 4 then backL m ρ (stepOf q) c
    else if q.val / 3 = 5 then landL m ρ (stepOf q) c
    else iprop(emp)

/-- One round per cell. -/
def Rd : Rounds.Schedule (GSem nD τ sig) (Fin 3) 𝕄 where
  duties g r := if r = 0 ∧ g.1.2 = .tc then dutiesOf g.2 else ∅
  unitless _ := False
  amount g _ _ := amountOf g.2
  payload g _ d := payOf m ρ g.1.1 g.2 d
  amount_pos g _ _ _ := by
    unfold amountOf
    split
    · exact Nat.one_pos
    · split
      · exact nC_pos
      · exact nL_pos

instance Rd_storable (g : GSem nD τ sig) (r : ℕ) (d : Fin 3) :
    BI.Storable (upEmb : UEmb _ 𝕄) ((Rd (F := F) m ρ).payload g r d) := by
  show BI.Storable upEmb (payOf m ρ g.1.1 g.2 d)
  unfold payOf barPay backC backL landC landL
  (repeat' split) <;> infer_instance

section Tables
variable (c : Dev nD) (s : Fin 3)

theorem duties_zero (sm : SemLoc sig) : (Rd (F := F) m ρ).duties ((c : Thread nD τ), sm) 0 = dutiesOf sm := by
  dsimp only [Rd]; exact if_pos ⟨rfl, rfl⟩
theorem duties_later (g : GSem nD τ sig) : ∀ r, 1 ≤ r → (Rd (F := F) m ρ).duties g r = ∅ :=
  fun r hr => by dsimp only [Rd]; exact if_neg fun h => by omega

theorem pay_bar : payOf (F := F) m ρ c (.reg barS) s = barPay s c := by unfold payOf; exact if_pos rfl
theorem pay_ext : payOf (F := F) m ρ c (.reg extS) s = iprop(emp) := by unfold payOf; exact if_neg ext_ne_bar
theorem pay_aC (d : Fin 3) : payOf (F := F) m ρ c (.dma (aC s)) d = backC m ρ s c := by fin_cases s <;> rfl
theorem pay_bC (d : Fin 3) : payOf (F := F) m ρ c (.dma (bC s)) d = landC m ρ s c := by fin_cases s <;> rfl
theorem pay_aL (d : Fin 3) : payOf (F := F) m ρ c (.dma (aL s)) d = backL m ρ s c := by fin_cases s <;> rfl
theorem pay_bL (d : Fin 3) : payOf (F := F) m ρ c (.dma (bL s)) d = landL m ρ s c := by fin_cases s <;> rfl

theorem amt_aC : amountOf (.dma (aC s)) = nC := by fin_cases s <;> rfl
theorem amt_bC : amountOf (.dma (bC s)) = nC := by fin_cases s <;> rfl
theorem amt_aL : amountOf (.dma (aL s)) = nL := by fin_cases s <;> rfl
theorem amt_bL : amountOf (.dma (bL s)) = nL := by fin_cases s <;> rfl

theorem dut_aC : dutiesOf (.dma (aC s)) = {0} := by fin_cases s <;> rfl
theorem dut_bC : dutiesOf (.dma (bC s)) = {0} := by fin_cases s <;> rfl
theorem dut_aL : dutiesOf (.dma (aL s)) = {0} := by fin_cases s <;> rfl
theorem dut_bL : dutiesOf (.dma (bL s)) = {0} := by fin_cases s <;> rfl

/-- A cell of one duty expects its amount, a cell of three its amount three times. -/
theorem expect_one {sm : SemLoc sig} (h : dutiesOf sm = {0}) : (Rd (F := F) m ρ).expect ((c : Thread nD τ), sm) 0 = amountOf sm := by
  unfold Schedule.expect Schedule.amountOf
  rw [duties_zero, h, Finset.sum_singleton]; rfl
theorem expect_reg (q : Sem sig) : (Rd (F := F) m ρ).expect ((c : Thread nD τ), .reg q) 0 = 3 := by
  unfold Schedule.expect Schedule.amountOf
  rw [duties_zero]; rfl

/-- What a cell's one wait hands its owner. -/
theorem rest_one {sm : SemLoc sig} (h : dutiesOf sm = {0}) :
    bigSep ((Rd (F := F) m ρ).duties ((c : Thread nD τ), sm) 0 \ ∅) (fun d => (Rd (F := F) m ρ).payload ((c : Thread nD τ), sm) 0 d)
      = payOf m ρ c sm 0 := by
  rw [Finset.sdiff_empty, duties_zero, h, bigSep_singleton]; rfl
theorem rest_reg (q : Sem sig) :
    bigSep ((Rd (F := F) m ρ).duties ((c : Thread nD τ), .reg q) 0 \ ∅) (fun d => (Rd (F := F) m ρ).payload ((c : Thread nD τ), .reg q) 0 d)
      = iprop(payOf m ρ c (.reg q) 0 ∗ payOf m ρ c (.reg q) 1 ∗ payOf m ρ c (.reg q) 2) := by
  rw [Finset.sdiff_empty, duties_zero]
  exact bigSep_univ_eq_bigSepL [0, 1, 2] (by decide) (by decide) _

end Tables

/-! ## What a device owes, and the levels -/

/-- The sum of a list of debts, the head owed last. -/
def owe : List (GSem nD τ sig × ℕ) → CellTallies nD τ sig Unit
  | [] => 0
  | p :: l => owe l + tallyAt p.1 () p.2

/-- What device `c` pays, in the order it pays it. -/
def debts (c : Dev nD) : List ((Dev nD × Fin 14) × ℕ) :=
  [((partner 0 c, 0), 1), ((partner 1 c, 0), 1), ((partner 2 c, 0), 1),
   ((partner 0 c, 5), nC), ((partner 0 c, 11), nL), ((partner 1 c, 6), nC), ((partner 1 c, 12), nL),
   ((partner 2 c, 7), nC), ((partner 2 c, 13), nL),
   ((partner 0 c, 1), 1), ((partner 1 c, 1), 1), ((partner 2 c, 1), 1)]

/-- What is left after the first `k` payments. -/
def due (k : ℕ) (c : Dev nD) : CellTallies nD τ sig Unit := owe (((debts c).drop k).map fun p => (kcell p.1, p.2))

def L (g : GSem nD τ sig) : Finset Unit := if g.1.2 = .tc then {()} else ∅
/-- The entry barrier at 1, the receive cells of step `s` at `2 + s`, the exit barrier at 5; the rest, which nobody owes, at 0. -/
def level : SemLoc sig → ℕ
  | .reg q => if q = barS then 1 else 5
  | .dma q => if q.val / 3 = 3 ∨ q.val / 3 = 5 then 2 + q.val % 3 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {l : List (GSem nD τ sig × ℕ)} {g : GSem nD τ sig} {u : Unit} (h : 0 < owe l g u) : ∃ n, (g, n) ∈ l := by
  induction l with
  | nil => exact absurd h (Nat.lt_irrefl 0)
  | cons p l ih =>
    by_cases hp : g = p.1
    · exact ⟨p.2, by rw [hp]; exact List.mem_cons_self⟩
    · have : 0 < owe l g u := by
        unfold owe at h
        rw [Pi.add_apply, Finsupp.add_apply, tallyAt_apply, if_neg (fun h' => hp h'.1)] at h
        exact h
      obtain ⟨n, hn⟩ := ih this
      exact ⟨n, List.mem_cons_of_mem _ hn⟩

/-- A wait on a semaphore of level at most `n`, when every cell still owed is above `n`. -/
theorem mayWait_due (c : Dev nD) (sm : SemLoc sig) (k n : ℕ) (hs : level sm ≤ n)
    (ho : ((((![0, 0, 0, 5, 11, 6, 12, 7, 13, 1, 1, 1] : Fin 12 → Fin 14) |> List.ofFn).drop k).all fun j => decide (n < level (csem j))) = true) :
    (levAts L lv : sProp 𝕄) ⊢ MayWait (c : Thread nD τ) sm () (due k c) := by
  have key : ∀ {g : GSem nD τ sig} {u : Unit}, 0 < due k c g u → ∃ d j, g = kcell (d, j) ∧ n < level (csem j) := by
    intro g u hg
    obtain ⟨a, ha⟩ := owe_pos hg
    obtain ⟨p, hp, e⟩ := List.mem_map.mp ha
    have hsnd : ((debts c).map fun p => p.1.2) = List.ofFn (![0, 0, 0, 5, 11, 6, 12, 7, 13, 1, 1, 1] : Fin 12 → Fin 14) := rfl
    refine ⟨p.1.1, p.1.2, (congrArg Prod.fst e).symm, ?_⟩
    have hm : p.1.2 ∈ ((List.ofFn (![0, 0, 0, 5, 11, 6, 12, 7, 13, 1, 1, 1] : Fin 12 → Fin 14)).drop k) := by
      rw [← hsnd, ← List.map_drop]; exact List.mem_map_of_mem hp
    exact of_decide_eq_true (List.all_eq_true.mp ho _ hm)
  refine MayOwe.of_cut (L := L) (lev := lv) n (fun p hp => by rw [Finset.mem_singleton.mp hp, L_tc]; exact Finset.mem_singleton_self _)
    (fun g u hg => ?_) (fun p hp => by rw [Finset.mem_singleton.mp hp]; exact hs) (fun g u hg => ?_)
  · obtain ⟨d, j, rfl, -⟩ := key hg
    rw [L_tc]; exact Finset.mem_singleton_self _
  · obtain ⟨d, j, rfl, h⟩ := key hg
    exact h

end Cert.KernelIdeal.Net
-- ==== Proof.KernelIdealRules.lean ====
/-
# One rule per kind of operation of the body

Each rule takes the operation at the head of a program and what it needs of the exchange's state:
loads and stores of slots, loads of the staged inputs, the signals, the transfers and the waits. A
wait returns its cell closed, since every cell has one round.
-/
module

public import proofs.«01_k».proof.Proof.KernelIdealSched

@[expose] public section

set_option backward.proofsInPublic true

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c`'s program `p` ends in `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def owing (c : Dev nD) (O : CellTallies nD τ sig Unit) : sProp 𝕄 := iprop(∃ W, owes (c : Thread nD τ) O W)

/-! ## Slots -/

section Slots

variable {sh : Shape} {e : EltTy} {M : Memref sig .tc .vmem sh e} {r : Rect sh} {c : Dev nD}
variable {α : Type}

theorem load_held {Q : α → sProp 𝕄} {v : r.shape.Idx → Elt F e} {hl : M.view.LoadsAt r.toLoadRect}
    {k : (r.toLoadRect.shape.Idx → Elt F e) → Prog (TpuEff nD τ sig (Elt F) Λ₀ .tc) α} :
    held M r c v ⊢ iprop((held M r c v -∗ WP c (k v) Q) -∗ WP c (.op (.load M r.toLoadRect hl) k) Q) := by
  unfold held slot
  iintro ⟨%f, %hf, H⟩ Hk
  iapply (wp_load_rect 𝒱₀ (c : Thread nD τ) none Set.univ (m := M) (r := r) (Finset.Subset.refl _)) $$ H
  iintro H
  rw [hf]
  iapply Hk
  iexists f
  isplitr
  · ipureintro; exact hf
  iexact H

theorem load_loose {Q : α → sProp 𝕄} {hl : M.view.LoadsAt r.toLoadRect}
    {k : (r.toLoadRect.shape.Idx → Elt F e) → Prog (TpuEff nD τ sig (Elt F) Λ₀ .tc) α} :
    loose M r c ⊢ iprop((∀ v, loose M r c -∗ WP c (k v) Q) -∗ WP c (.op (.load M r.toLoadRect hl) k) Q) := by
  unfold loose slot
  iintro ⟨%f, H⟩ Hk
  iapply (wp_load_rect 𝒱₀ (c : Thread nD τ) none Set.univ (m := M) (r := r) (Finset.Subset.refl _)) $$ H
  iintro H
  iapply Hk
  iexists f
  iexact H

theorem store_slot {Q : α → sProp 𝕄} {w : r.shape.Idx → Elt F e} {hx : (M.access r).Stores Finset.univ}
    {hm : (Finset.univ : Finset r.shape.Idx) = Finset.univ ∨ ∀ a, r.stride a = 1} {k : PUnit → Prog (TpuEff nD τ sig (Elt F) Λ₀ .tc) α} :
    loose M r c ⊢ iprop((held M r c w -∗ WP c (k ⟨⟩) Q) -∗ WP c (.op (.store M r w Finset.univ hx hm) k) Q) := by
  unfold held loose slot
  iintro ⟨%f, H⟩ Hk
  iapply (wp_store 𝒱₀ (c : Thread nD τ) none Set.univ (m := M) (r := r) (Mk := Finset.univ) (S := (M.access r).set) (Finset.Subset.refl _)) $$ H
  iintro H
  iapply Hk
  iexists ((M.access r).write (Elt F) f w Finset.univ)
  isplitr
  · ipureintro; exact View.read_write_univ _ _
  iexact H

end Slots

/-! ## The shared records of the cells -/

/-- Every cell's invariant, under the names `K`, and that every cell has reached round 0. -/
def recs (K : Dev nD × Fin 14 → ℕ) : sProp 𝕄 :=
  iprop((bigSep Finset.univ fun ck : Dev nD × Fin 14 => cellInv ER (Rd m ρ) (K ck) (kcell ck))
    ∗ bigSep Finset.univ fun ck : Dev nD × Fin 14 => reached ER (kcell ck) 0)

instance recs_persistent (K : Dev nD × Fin 14 → ℕ) : BI.Persistent (recs m ρ K) := by unfold recs; infer_instance

theorem recs_inv (K : Dev nD × Fin 14 → ℕ) (d : Dev nD) (j : Fin 14) {sm : SemLoc sig} (hj : csem j = sm) :
    recs m ρ K ⊢ cellInv ER (Rd m ρ) (K (d, j)) ((d : Thread nD τ), sm) := by
  subst hj
  unfold recs
  iintro ⟨H, -⟩
  have h : (bigSep Finset.univ (fun ck : Dev nD × Fin 14 => cellInv ER (Rd m ρ) (K ck) (kcell ck)) : sProp 𝕄) ⊢ (fun ck : Dev nD × Fin 14 => cellInv ER (Rd m ρ) (K ck) (kcell ck)) (d, j) :=
    bigSep_elim (Finset.mem_univ (d, j))
  iapply h $$ H

theorem recs_reached (K : Dev nD × Fin 14 → ℕ) (d : Dev nD) (j : Fin 14) {sm : SemLoc sig} (hj : csem j = sm) :
    recs m ρ K ⊢ reached ER ((d : Thread nD τ), sm) 0 := by
  subst hj
  unfold recs
  iintro ⟨-, H⟩
  have h : (bigSep Finset.univ (fun ck : Dev nD × Fin 14 => reached ER (kcell ck) 0) : sProp 𝕄) ⊢ (fun ck : Dev nD × Fin 14 => reached ER (kcell ck) 0) (d, j) :=
    bigSep_elim (Finset.mem_univ (d, j))
  iapply h $$ H

/-! ## Signals, transfers, waits -/

section Steps

variable (K : Dev nD × Fin 14 → ℕ) (c : Dev nD)
variable {α : Type} {k : PUnit → Prog (TpuEff nD τ sig (Elt F) Λ₀ .tc) α}

/-- The signal paying duty `s` of partner `s`'s barrier cell `j`, payment `i` of the device. -/
theorem step_signal {Q : α → sProp 𝕄} (s : Fin 3) (n : Dev nD) (hn : n = partner s c) (q : Sem sig) (j : Fin 14) (hj : csem j = .reg q) (i : ℕ) {k' : ℕ} (hk : 1 = k')
    (hd : due i c = due (i + 1) c + tallyAt ((partner s c : Thread nD τ), .reg q) () 1) :
    iprop(recs m ρ K ∗ owing c (due i c) ∗ dutyTok ER ((partner s c : Thread nD τ), .reg q) 0 s ∗ payOf m ρ (partner s c) (.reg q) s)
      ⊢ iprop((owing c (due (i + 1) c) -∗ WP c (k ⟨⟩) Q) -∗ WP c (.op (.semSignal (n : Thread nD τ) q k') k) Q) := by
  subst hn hk
  unfold owing
  iintro ⟨#HR, ⟨%W, HO⟩, Ht, Hp⟩ Hk
  ihave #HI := (recs_inv m ρ K (partner s c) j hj) $$ HR
  ihave #Hr := (recs_reached m ρ K (partner s c) j hj) $$ HR
  iapply (Rounds.wp_signal 𝒱₀ ER (Rd m ρ) (c : Thread nD τ) none (dst := (partner s c : Thread nD τ)) (κ := K (partner s c, j))
      (d := s) (r := 0) (by rw [duties_zero]; exact Finset.mem_univ _) rfl () (due (i + 1) c) hd) $$ [HO Ht Hp]
  · isplitr; · iexact HI
    isplitl [HO]; · iexact HO
    isplitl [Ht]; · iexact Ht
    isplitl [Hp]; · iapply (Entails.of_eq (show payOf m ρ (partner s c) (.reg q) s = (Rd m ρ).payload ((partner s c : Thread nD τ), .reg q) 0 s from rfl)); iexact Hp
    iexact Hr
  iintro HO
  iapply Hk
  iexists W
  iexact HO

/-- The one wait on the device's own cell `j`: its payloads, and the cell closed. -/
theorem step_wait {Q : α → sProp 𝕄} {w : TpuEff nD τ sig (Elt F) Λ₀ .tc PUnit} (sm : SemLoc sig) (j : Fin 14) (hj : csem j = sm) (i n k' : ℕ)
    (hw : ∀ P : PUnit → sProp 𝕄, wpE (defs₀ (F := F)) 𝒱₀ (c : Thread nD τ) none Set.univ w P = waitSpec (c : Thread nD τ) Set.univ sm k' P)
    (hk : (Rd (F := F) m ρ).expect ((c : Thread nD τ), sm) 0 = k')
    (hs : level sm ≤ n)
    (ho : ((((![0, 0, 0, 5, 11, 6, 12, 7, 13, 1, 1, 1] : Fin 12 → Fin 14) |> List.ofFn).drop i).all fun j => decide (n < level (csem j))) = true) :
    iprop(recs m ρ K ∗ levAts L lv ∗ cred (tallyAt ((c : Thread nD τ), sm) () k') ∗ owing c (due i c) ∗ atPos ER ((c : Thread nD τ), sm) 0 ∅ 0)
      ⊢ iprop(((owing c (due i c) ∗ semVal ((c : Thread nD τ), sm) 0
            ∗ bigSep ((Rd (F := F) m ρ).duties ((c : Thread nD τ), sm) 0 \ ∅) (fun d => (Rd (F := F) m ρ).payload ((c : Thread nD τ), sm) 0 d))
          -∗ WP c (k ⟨⟩) Q) -∗ WP c (.op w k) Q) := by
  subst hj
  unfold owing
  iintro ⟨#HR, #Hlev, Hc, ⟨%W, HO⟩, Hat⟩ Hk
  ihave #HI := (recs_inv m ρ K c j rfl) $$ HR
  iapply (Rounds.wp_wait_rest_token 𝒱₀ ER (Rd m ρ) (c : Thread nD τ) none (κ := K (c, j)) hw (Set.mem_univ _) ()
      (O := due i c) (W := W) (R := 0) (m := 0) (T := ∅) (by rw [Nat.zero_add, hk])) $$ [Hc HO Hat]
  · isplitr; · iexact HI
    isplitl [Hc]; · iexact Hc
    isplitl [HO]; · iexact HO
    isplitr; · iapply (mayWait_due c (csem j) i n hs ho); iexact Hlev
    iexact Hat
  iintro ⟨HO, Hat, -, Hpay⟩
  imod (Rounds.cell_close ER (Rd m ρ) (Set.mem_univ (K (c, j))) (fun h => h) (R := 0 + 1) (duties_later m ρ (kcell (c, j)))) $$ [Hat] with Hz
  · isplitr; · iexact HI
    iexact Hat
  iapply Hk
  isplitl [HO]
  · iexists _; iexact HO
  isplitl [Hz]; · iexact Hz
  iexact Hpay

/-- The wait on a transfer cell, whose amount is the credit of the view it names. -/
theorem step_waitDma {Q : α → sProp 𝕄} {sp sp' : Space} {sh sh' : Shape} {e e' : EltTy} (a : DmaSem sig) (src : Memref sig .tc sp' sh' e')
    (dst : Memref sig .tc sp sh e) {hsrc : src.view.WordExact} {hdst : dst.view.WordExact}
    (j : Fin 14) (hj : csem j = .dma a) (i n N : ℕ) (hN : dst.view.dmaCredit = N) (ha : amountOf (.dma a) = N) (da : dutiesOf (.dma a) = {0})
    {P : sProp 𝕄} (pa : payOf m ρ c (.dma a) 0 = P)
    (hs : level (.dma a) ≤ n)
    (ho : ((((![0, 0, 0, 5, 11, 6, 12, 7, 13, 1, 1, 1] : Fin 12 → Fin 14) |> List.ofFn).drop i).all fun j => decide (n < level (csem j))) = true) :
    iprop(recs m ρ K ∗ levAts L lv ∗ cred (tallyAt ((c : Thread nD τ), .dma a) () N) ∗ owing c (due i c) ∗ atPos ER ((c : Thread nD τ), .dma a) 0 ∅ 0)
      ⊢ iprop(((owing c (due i c) ∗ semVal ((c : Thread nD τ), .dma a) 0 ∗ P) -∗ WP c (k ⟨⟩) Q)
          -∗ WP c (.op (.waitDma2 a src dst hsrc hdst) k) Q) := by
  subst hN pa
  rw [← rest_one m ρ c da]
  exact step_wait m ρ K c (.dma a) j hj i n dst.view.dmaCredit (wpE_waitDma2_eq 𝒱₀ (c : Thread nD τ) none Set.univ)
    ((expect_one m ρ c da).trans ha) hs ho

/-- A transfer of one slot of `A` into the same slot of the partner's `B`. -/
theorem step_send {Q : α → sProp 𝕄} {sh sh' : Shape} {e : EltTy} (A B : Memref sig .tc .vmem sh e) (r : Rect sh) (hr : ∀ a, r.stride a = 1) (hq : r.shape.Squeezes sh')
    (a b : DmaSem sig) (j₁ j₂ : Fin 14) (h₁ : csem j₁ = .dma a) (h₂ : csem j₂ = .dma b) (p n : Dev nD) (hn : n = p) (i N : ℕ)
    (hN : (((B.slice r hr).squeeze sh' hq).view.dmaCredit) = N)
    (ha : amountOf (.dma a) = N) (hb : amountOf (.dma b) = N) (da : dutiesOf (.dma a) = {0}) (db : dutiesOf (.dma b) = {0})
    (v : r.shape.Idx → Elt F e)
    (pa : payOf m ρ c (.dma a) 0 = held A r c v) (pb : payOf m ρ p (.dma b) 0 = held B r p v)
    (hd : due i c = due (i + 1) c + tallyAt ((p : Thread nD τ), .dma b) () N)
    {hsc : ((B.slice r hr).squeeze sh' hq : Memref sig (Dev.tc n : Thread nD τ).2.kind .vmem sh' e).view.ref.isScScratch = false}
    {hsrc : ((A.slice r hr).squeeze sh' hq).view.WordExact} {hdst : ((B.slice r hr).squeeze sh' hq).view.WordExact}
    {hsem : DmaTarget.Typed .vmem (.dma b) (.remote (Dev.tc n : Thread nD τ) ((B.slice r hr).squeeze sh' hq) (.dma a) hsc)} :
    iprop(recs m ρ K ∗ held A r c v ∗ loose B r p ∗ owing c (due i c) ∗ dutyTok ER ((c : Thread nD τ), .dma a) 0 0 ∗ dutyTok ER ((p : Thread nD τ), .dma b) 0 0)
      ⊢ iprop(((cred (tallyAt ((c : Thread nD τ), .dma a) () N) ∗ owing c (due (i + 1) c)) -∗ WP c (k ⟨⟩) Q)
          -∗ WP c (.op (.enqueueDma ((A.slice r hr).squeeze sh' hq) (.remote (Dev.tc n : Thread nD τ) ((B.slice r hr).squeeze sh' hq) (.dma a) hsc)
              (.dma b) hsrc hdst hsem) k) Q) := by
  subst hn
  unfold owing
  unfold held loose slot at *
  iintro ⟨#HR, ⟨%fs, %hfs, Hs⟩, ⟨%fd, Hd⟩, ⟨%W, HO⟩, Ht₁, Ht₂⟩ Hk
  ihave #HI₁ := (recs_inv m ρ K c j₁ h₁) $$ HR
  ihave #Hr₁ := (recs_reached m ρ K c j₁ h₁) $$ HR
  ihave #HI₂ := (recs_inv m ρ K n j₂ h₂) $$ HR
  ihave #Hr₂ := (recs_reached m ρ K n j₂ h₂) $$ HR
  have hA : ((A.slice r hr).squeeze sh' hq).view.set = (A.access r).set := Memref.set_view_squeeze _ _
  have hB : ((B.slice r hr).squeeze sh' hq).view.set = (B.access r).set := Memref.set_view_squeeze _ _
  have hc : r.shape.ShapeCasts sh' := hq.numel_eq
  have hland : (B.access r).read (Elt F) (((B.slice r hr).squeeze sh' hq).view.write (Elt F) fd (((A.slice r hr).squeeze sh' hq).view.read (Elt F) fs) Finset.univ) = v := by
    have h : shapeCast sh' ((B.access r).read (Elt F) (((B.slice r hr).squeeze sh' hq).view.write (Elt F) fd (((A.slice r hr).squeeze sh' hq).view.read (Elt F) fs) Finset.univ)) hc
        = shapeCast sh' ((A.access r).read (Elt F) fs) hc := View.read_write_univ _ _
    rw [← hfs]
    funext x
    have hx := congrFun h ((Shape.reshapeEquiv hc).symm x)
    unfold shapeCast at hx
    rwa [Equiv.apply_symm_apply] at hx
  iapply (Rounds.wp_send_pointsTo 𝒱₀ ER (Rd m ρ) (c : Thread nD τ) none (c' := (n : Thread nD τ))
      (src := (A.slice r hr).squeeze sh' hq) (dst := (B.slice r hr).squeeze sh' hq) (sS := .dma a) (sem := .dma b) (κ₁ := K (c, j₁)) (κ₂ := K (n, j₂))
      (r₁ := 0) (r₂ := 0) (d₁ := 0) (d₂ := 0) (fs := fs) (fd := fd) (q := fullShare)
      (by rw [duties_zero, da]; exact Finset.mem_singleton_self _) (by rw [duties_zero, db]; exact Finset.mem_singleton_self _)
      () () N hN ha hb (due (i + 1) c) hd (W := W)
      (by
        show _ ⊢ payOf m ρ c (.dma a) 0
        rw [pa, hA]
        iintro H
        iexists fs
        isplitr
        · ipureintro; exact hfs
        iexact H)
      (by
        show _ ⊢ payOf m ρ n (.dma b) 0
        rw [pb, hB]
        iintro H
        iexists _
        isplitr
        · ipureintro; exact hland
        iexact H)) $$ [Hs Hd HO Ht₁ Ht₂]
  · isplitr; · iexact HI₁
    isplitr; · iexact HI₂
    isplitl [Hs]; · rw [hA]; iexact Hs
    isplitl [Hd]; · rw [hB]; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W
  iexact HO

end Steps

end Cert.KernelIdeal.Net
-- ==== Proof.KernelIdealBody.lean ====
/-
# The body on one device

`exchange` is one step of the butterfly: the two send slots stored, both transfers issued, the four
waits, the two receive slots loaded. `sound_body` runs the whole body at a symbolic device: the
entry handshake, the loads, three exchanges, the store and the exit handshake.
-/
module

public import proofs.«01_k».proof.Proof.KernelIdealRules

@[expose] public section

set_option backward.proofsInPublic true

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One exchange -/

abbrev kaC (s : Fin 3) : Fin 14 := (![2, 3, 4] : Fin 3 → Fin 14) s
abbrev kbC (s : Fin 3) : Fin 14 := (![5, 6, 7] : Fin 3 → Fin 14) s
abbrev kaL (s : Fin 3) : Fin 14 := (![8, 9, 10] : Fin 3 → Fin 14) s
abbrev kbL (s : Fin 3) : Fin 14 := (![11, 12, 13] : Fin 3 → Fin 14) s

theorem csem_kaC (s : Fin 3) : csem (kaC s) = .dma (aC s) := by fin_cases s <;> rfl
theorem csem_kbC (s : Fin 3) : csem (kbC s) = .dma (bC s) := by fin_cases s <;> rfl
theorem csem_kaL (s : Fin 3) : csem (kaL s) = .dma (aL s) := by fin_cases s <;> rfl
theorem csem_kbL (s : Fin 3) : csem (kbL s) = .dma (bL s) := by fin_cases s <;> rfl

theorem due_C (s : Fin 3) (c : Dev nD) :
    due (3 + 2 * s.val) c = due (3 + 2 * s.val + 1) c + tallyAt ((partner s c : Thread nD τ), .dma (bC s)) () nC := by
  fin_cases s <;> rfl
theorem due_L (s : Fin 3) (c : Dev nD) :
    due (3 + 2 * s.val + 1) c = due (3 + 2 * s.val + 1 + 1) c + tallyAt ((partner s c : Thread nD τ), .dma (bL s)) () nL := by
  fin_cases s <;> rfl

theorem level_aC (s : Fin 3) : level (.dma (aC s)) ≤ 0 := by revert s; decide
theorem level_bC (s : Fin 3) : level (.dma (bC s)) ≤ 2 + s.val := by revert s; decide
theorem level_aL (s : Fin 3) : level (.dma (aL s)) ≤ 0 := by revert s; decide
theorem level_bL (s : Fin 3) : level (.dma (bL s)) ≤ 2 + s.val := by revert s; decide

/-- After the sends of step `s` everything still owed lies above level `2 + s`, so above 0. -/
theorem later_above (s : Fin 3) : (((List.ofFn (![0, 0, 0, 5, 11, 6, 12, 7, 13, 1, 1, 1] : Fin 12 → Fin 14)).drop (3 + 2 * s.val + 1 + 1)).all
    fun j => decide (2 + s.val < level (csem j))) = true := by revert s; decide
theorem later_pos (s : Fin 3) : (((List.ofFn (![0, 0, 0, 5, 11, 6, 12, 7, 13, 1, 1, 1] : Fin 12 → Fin 14)).drop (3 + 2 * s.val + 1 + 1)).all
    fun j => decide (0 < level (csem j))) = true := by revert s; decide

/-- What step `s` consumes besides the partner's receive slots. -/
def stepPre (s : Fin 3) (c : Dev nD) : sProp 𝕄 :=
  iprop(cred (tallyAt ((c : Thread nD τ), .dma (bC s)) () nC) ∗ cred (tallyAt ((c : Thread nD τ), .dma (bL s)) () nL)
    ∗ atPos ER ((c : Thread nD τ), .dma (aC s)) 0 ∅ 0 ∗ atPos ER ((c : Thread nD τ), .dma (bC s)) 0 ∅ 0
    ∗ atPos ER ((c : Thread nD τ), .dma (aL s)) 0 ∅ 0 ∗ atPos ER ((c : Thread nD τ), .dma (bL s)) 0 ∅ 0
    ∗ dutyTok ER ((c : Thread nD τ), .dma (aC s)) 0 0 ∗ dutyTok ER ((partner s c : Thread nD τ), .dma (bC s)) 0 0
    ∗ dutyTok ER ((c : Thread nD τ), .dma (aL s)) 0 0 ∗ dutyTok ER ((partner s c : Thread nD τ), .dma (bL s)) 0 0
    ∗ loose sC (qC s) c ∗ loose sL (qL s) c)

/-- What step `s` leaves: its four cells closed and the device's own four slots. -/
def stepPost (s : Fin 3) (c : Dev nD) : sProp 𝕄 :=
  iprop((semVal ((c : Thread nD τ), .dma (aC s)) 0 ∗ semVal ((c : Thread nD τ), .dma (bC s)) 0
      ∗ semVal ((c : Thread nD τ), .dma (aL s)) 0 ∗ semVal ((c : Thread nD τ), .dma (bL s)) 0)
    ∗ loose sC (qC s) c ∗ loose rC (qC s) c ∗ loose sL (qL s) c ∗ loose rL (qL s) c)

theorem exchange (K : Dev nD × Fin 14 → ℕ) (s : Fin 3) (c n₁ n₂ : Dev nD) (hn₁ : n₁ = partner s c) (hn₂ : n₂ = partner s c)
    {α : Type} {Q : α → sProp 𝕄}
    {wC : FVec F S1x2x256x256 .bf16} {wL : FVec F S1x8x256 .f32} (hwC : wC = sentC m ρ s c) (hwL : wL = sentL m ρ s c)
    {l₁ : sC.view.LoadsAt (qC s).toLoadRect} {l₂ : sL.view.LoadsAt (qL s).toLoadRect}
    {l₃ : rC.view.LoadsAt (qC s).toLoadRect} {l₄ : rL.view.LoadsAt (qL s).toLoadRect}
    {x₁ : (sC.access (qC s)).Stores Finset.univ} {x₂ : (sL.access (qL s)).Stores Finset.univ}
    {y₁ : (Finset.univ : Finset (qC s).shape.Idx) = Finset.univ ∨ ∀ a, (qC s).stride a = 1}
    {y₂ : (Finset.univ : Finset (qL s).shape.Idx) = Finset.univ ∨ ∀ a, (qL s).stride a = 1}
    {z₁ : (viewC rC s : Memref sig (Dev.tc n₁ : Thread nD τ).2.kind .vmem S2x256x256 .bf16).view.ref.isScScratch = false}
    {z₂ : (viewL rL s : Memref sig (Dev.tc n₂ : Thread nD τ).2.kind .vmem S8x256 .f32).view.ref.isScScratch = false}
    {a₁ a₂ a₃ : (viewC sC s).view.WordExact} {b₁ b₂ b₃ : (viewC rC s).view.WordExact}
    {d₁ d₂ d₃ : (viewL sL s).view.WordExact} {e₁ e₂ e₃ : (viewL rL s).view.WordExact}
    {t₁ : DmaTarget.Typed .vmem (.dma (bC s)) (.remote (Dev.tc n₁ : Thread nD τ) (viewC rC s) (.dma (aC s)) z₁)}
    {t₂ : DmaTarget.Typed .vmem (.dma (bL s)) (.remote (Dev.tc n₂ : Thread nD τ) (viewL rL s) (.dma (aL s)) z₂)}
    {k : Vec F S1x2x256x256 .bf16 → Vec F S1x8x256 .f32 → Prog (TpuEff nD τ sig (Elt F) Λ₀ .tc) α} :
    iprop(recs m ρ K ∗ levAts L lv ∗ owing c (due (3 + 2 * s.val) c) ∗ barPay s c ∗ stepPre s c)
      ⊢ iprop(((owing c (due (3 + 2 * s.val + 2) c) ∗ stepPost s c)
            -∗ WP c (k (sentC m ρ s (partner s c)) (sentL m ρ s (partner s c))) Q)
          -∗ WP c
            (.op (.load sC (qC s).toLoadRect l₁) fun _ =>
             .op (.store sC (qC s) wC Finset.univ x₁ y₁) fun _ =>
             .op (.load sL (qL s).toLoadRect l₂) fun _ =>
             .op (.store sL (qL s) wL Finset.univ x₂ y₂) fun _ =>
             .op (.enqueueDma (viewC sC s) (.remote (Dev.tc n₁ : Thread nD τ) (viewC rC s) (.dma (aC s)) z₁) (.dma (bC s)) a₁ b₁ t₁) fun _ =>
             .op (.enqueueDma (viewL sL s) (.remote (Dev.tc n₂ : Thread nD τ) (viewL rL s) (.dma (aL s)) z₂) (.dma (bL s)) d₁ e₁ t₂) fun _ =>
             .op (.waitDma2 (aC s) (viewC rC s) (viewC sC s) b₂ a₂) fun _ =>
             .op (.waitDma2 (bC s) (viewC sC s) (viewC rC s) a₃ b₃) fun _ =>
             .op (.waitDma2 (aL s) (viewL rL s) (viewL sL s) e₂ d₂) fun _ =>
             .op (.waitDma2 (bL s) (viewL sL s) (viewL rL s) d₃ e₃) fun _ =>
             .op (.load rC (qC s).toLoadRect l₃) fun u =>
             .op (.load rL (qL s).toLoadRect l₄) fun v => k u v) Q) := by
  subst hwC hwL
  unfold stepPre barPay
  iintro ⟨#HR, #Hlev, HO, ⟨HpC, HpL⟩, HcC, HcL, HaC, HbC, HaL, HbL, TaC, TbC, TaL, TbL, HsC, HsL⟩ Hk
  iapply load_loose $$ HsC
  iintro %v₁ HsC
  iapply (store_slot (w := sentC m ρ s c)) $$ HsC
  iintro HsC
  iapply load_loose $$ HsL
  iintro %v₂ HsL
  iapply (store_slot (w := sentL m ρ s c)) $$ HsL
  iintro HsL
  -- both transfers
  iapply (step_send m ρ K c sC rC (qC s) (fun _ => rfl) squeezes_S1x2x256x256_S2x256x256 (aC s) (bC s) (kaC s) (kbC s) (csem_kaC s) (csem_kbC s)
      (partner s c) n₁ hn₁ (3 + 2 * s.val) nC (creditC rC s) (amt_aC s) (amt_bC s) (dut_aC s) (dut_bC s) (sentC m ρ s c)
      (pay_aC m ρ c s 0) (by rw [pay_bC]; unfold landC; rw [partner_partner]) (due_C s c)) $$ [HsC HpC HO TaC TbC]
  · isplitr; · iexact HR
    isplitl [HsC]; · iexact HsC
    isplitl [HpC]; · iexact HpC
    isplitl [HO]; · iexact HO
    isplitl [TaC]; · iexact TaC
    iexact TbC
  iintro ⟨HqC, HO⟩
  iapply (step_send m ρ K c sL rL (qL s) (fun _ => rfl) squeezes_S1x8x256_S8x256 (aL s) (bL s) (kaL s) (kbL s) (csem_kaL s) (csem_kbL s)
      (partner s c) n₂ hn₂ (3 + 2 * s.val + 1) nL (creditL rL s) (amt_aL s) (amt_bL s) (dut_aL s) (dut_bL s) (sentL m ρ s c)
      (pay_aL m ρ c s 0) (by rw [pay_bL]; unfold landL; rw [partner_partner]) (due_L s c)) $$ [HsL HpL HO TaL TbL]
  · isplitr; · iexact HR
    isplitl [HsL]; · iexact HsL
    isplitl [HpL]; · iexact HpL
    isplitl [HO]; · iexact HO
    isplitl [TaL]; · iexact TaL
    iexact TbL
  iintro ⟨HqL, HO⟩
  -- the four waits
  iapply (step_waitDma m ρ K c (aC s) (viewC rC s) (viewC sC s) (kaC s) (csem_kaC s) (3 + 2 * s.val + 1 + 1) 0 nC (creditC sC s) (amt_aC s) (dut_aC s)
      (pay_aC m ρ c s 0) (level_aC s) (later_pos s)) $$ [HqC HO HaC]
  · isplitr; · iexact HR
    isplitr; · iexact Hlev
    isplitl [HqC]; · iexact HqC
    isplitl [HO]; · iexact HO
    iexact HaC
  iintro ⟨HO, ZaC, HsC⟩
  iapply (step_waitDma m ρ K c (bC s) (viewC sC s) (viewC rC s) (kbC s) (csem_kbC s) (3 + 2 * s.val + 1 + 1) (2 + s.val) nC (creditC rC s) (amt_bC s) (dut_bC s)
      (pay_bC m ρ c s 0) (level_bC s) (later_above s)) $$ [HcC HO HbC]
  · isplitr; · iexact HR
    isplitr; · iexact Hlev
    isplitl [HcC]; · iexact HcC
    isplitl [HO]; · iexact HO
    iexact HbC
  iintro ⟨HO, ZbC, HrC⟩
  iapply (step_waitDma m ρ K c (aL s) (viewL rL s) (viewL sL s) (kaL s) (csem_kaL s) (3 + 2 * s.val + 1 + 1) 0 nL (creditL sL s) (amt_aL s) (dut_aL s)
      (pay_aL m ρ c s 0) (level_aL s) (later_pos s)) $$ [HqL HO HaL]
  · isplitr; · iexact HR
    isplitr; · iexact Hlev
    isplitl [HqL]; · iexact HqL
    isplitl [HO]; · iexact HO
    iexact HaL
  iintro ⟨HO, ZaL, HsL⟩
  iapply (step_waitDma m ρ K c (bL s) (viewL sL s) (viewL rL s) (kbL s) (csem_kbL s) (3 + 2 * s.val + 1 + 1) (2 + s.val) nL (creditL rL s) (amt_bL s) (dut_bL s)
      (pay_bL m ρ c s 0) (level_bL s) (later_above s)) $$ [HcL HO HbL]
  · isplitr; · iexact HR
    isplitr; · iexact Hlev
    isplitl [HcL]; · iexact HcL
    isplitl [HO]; · iexact HO
    iexact HbL
  iintro ⟨HO, ZbL, HrL⟩
  -- the two received slots
  unfold landC landL backC backL
  iapply (load_held (v := sentC m ρ s (partner s c))) $$ HrC
  iintro HrC
  iapply (load_held (v := sentL m ρ s (partner s c))) $$ HrL
  iintro HrL
  iapply Hk
  isplitl [HO]; · iexact HO
  unfold stepPost
  isplitl [ZaC ZbC ZaL ZbL]
  · isplitl [ZaC]; · iexact ZaC
    isplitl [ZbC]; · iexact ZbC
    isplitl [ZaL]; · iexact ZaL
    iexact ZbL
  isplitl [HsC]; · iapply (held_loose sC (qC s) c (sentC m ρ s c)); iexact HsC
  isplitl [HrC]; · iapply (held_loose rC (qC s) c (sentC m ρ s (partner s c))); iexact HrC
  isplitl [HsL]; · iapply (held_loose sL (qL s) c (sentL m ρ s c)); iexact HsL
  iapply (held_loose rL (qL s) c (sentL m ρ s (partner s c))); iexact HrL

/-! ## The staged inputs -/

def atX (c : Dev nD) : sProp 𝕄 := ((c : Thread nD τ).loc cc0_stg0_0) ↦{fullShare} inX m ρ c
def atQ (c : Dev nD) : sProp 𝕄 := ((c : Thread nD τ).loc cc0_stg1_0) ↦{fullShare} inQ m ρ c
def atK (c : Dev nD) : sProp 𝕄 := ((c : Thread nD τ).loc cc0_stg2_0) ↦{fullShare} inK m ρ c
def atV (c : Dev nD) : sProp 𝕄 := ((c : Thread nD τ).loc cc0_stg3_0) ↦{fullShare} inV m ρ c
def atO (c : Dev nD) : sProp 𝕄 := ((c : Thread nD τ).loc cc0_stg4_0) ↦{fullShare} inO m ρ c
def atR (c : Dev nD) (f : Buf (Elt F) ((c : Thread nD τ).loc cc0_stg5_0)) : sProp 𝕄 := ((c : Thread nD τ).loc cc0_stg5_0) ↦{fullShare} f

section Staged
variable (c : Dev nD) {α : Type}

theorem load_X {Q : α → sProp 𝕄} {hl : gX.view.LoadsAt qX.toLoadRect} {k : Vec F S2x256x512 .f32 → Prog (TpuEff nD τ sig (Elt F) Λ₀ .tc) α} :
    atX m ρ c ⊢ iprop((atX m ρ c -∗ WP c (k (ldX m ρ c)) Q) -∗ WP c (.op (.load gX qX.toLoadRect hl) k) Q) := by
  unfold atX ldX
  exact wp_load 𝒱₀ (c : Thread nD τ) none Set.univ (m := gX) (Finset.subset_univ _)
theorem load_Q {Q : α → sProp 𝕄} {hl : gQ.view.LoadsAt qQ.toLoadRect} {k : Vec F S512x256 .f32 → Prog (TpuEff nD τ sig (Elt F) Λ₀ .tc) α} :
    atQ m ρ c ⊢ iprop((atQ m ρ c -∗ WP c (k (ldQ m ρ c)) Q) -∗ WP c (.op (.load gQ qQ.toLoadRect hl) k) Q) := by
  unfold atQ ldQ
  exact wp_load 𝒱₀ (c : Thread nD τ) none Set.univ (m := gQ) (Finset.subset_univ _)
theorem load_K (b : Fin 2) (h : Fin 4) {Q : α → sProp 𝕄} {hl : gK.view.LoadsAt (qH b h).toLoadRect} {k : Vec F S1x256x1x64 .f32 → Prog (TpuEff nD τ sig (Elt F) Λ₀ .tc) α} :
    atK m ρ c ⊢ iprop((atK m ρ c -∗ WP c (k (ldK m ρ b h c)) Q) -∗ WP c (.op (.load gK (qH b h).toLoadRect hl) k) Q) := by
  unfold atK ldK
  exact wp_load 𝒱₀ (c : Thread nD τ) none Set.univ (m := gK) (Finset.subset_univ _)
theorem load_V (b : Fin 2) (h : Fin 4) {Q : α → sProp 𝕄} {hl : gV.view.LoadsAt (qH b h).toLoadRect} {k : Vec F S1x256x1x64 .f32 → Prog (TpuEff nD τ sig (Elt F) Λ₀ .tc) α} :
    atV m ρ c ⊢ iprop((atV m ρ c -∗ WP c (k (ldV m ρ b h c)) Q) -∗ WP c (.op (.load gV (qH b h).toLoadRect hl) k) Q) := by
  unfold atV ldV
  exact wp_load 𝒱₀ (c : Thread nD τ) none Set.univ (m := gV) (Finset.subset_univ _)
theorem load_O {Q : α → sProp 𝕄} {hl : gO.view.LoadsAt qO.toLoadRect} {k : Vec F S256x512 .f32 → Prog (TpuEff nD τ sig (Elt F) Λ₀ .tc) α} :
    atO m ρ c ⊢ iprop((atO m ρ c -∗ WP c (k (ldO m ρ c)) Q) -∗ WP c (.op (.load gO qO.toLoadRect hl) k) Q) := by
  unfold atO ldO
  exact wp_load 𝒱₀ (c : Thread nD τ) none Set.univ (m := gO) (Finset.subset_univ _)

theorem zero3 : (![0, 0, 0] : Fin 3 → ℕ) = fun _ => 0 := funext fun a => by fin_cases a <;> rfl

/-- The output is loaded (unused) and stored whole. -/
theorem store_R {Q : α → sProp 𝕄} {hl : gR.view.LoadsAt qX.toLoadRect} {w : FVec F S2x256x512 .f32} {hx : (gR.access qX).Stores Finset.univ}
    {hm : (Finset.univ : Finset qX.shape.Idx) = Finset.univ ∨ ∀ a, qX.stride a = 1} {k : PUnit → Prog (TpuEff nD τ sig (Elt F) Λ₀ .tc) α} (f) :
    atR c f ⊢ iprop((atR c w -∗ WP c (k ⟨⟩) Q) -∗ WP c (.op (.load gR qX.toLoadRect hl) fun _ => .op (.store gR qX w Finset.univ hx hm) k) Q) := by
  unfold atR
  iintro H Hk
  iapply (wp_load 𝒱₀ (c : Thread nD τ) none Set.univ (m := gR) (Finset.subset_univ _)) $$ H; iintro H
  iapply (wp_store 𝒱₀ (c : Thread nD τ) none Set.univ (m := gR) (r := qX) (Mk := Finset.univ) (Finset.subset_univ _)) $$ H; iintro H
  rw [show (gR.access qX).write (Elt F) f w Finset.univ = w from Memref.write_access_unit_zero_univ (Elt F) cc0_stg5_0 zero3 _ f w]
  iapply Hk
  iexact H

end Staged

/-! ## The whole body -/

/-- The kernel's body on its buffers. -/
abbrev body : Prog (TpuEff nD τ sig (Elt F) Λ₀ .tc) PUnit :=
  cc0_body gX (Memref.isWhole_whole _) gQ (Memref.isWhole_whole _) gK (Memref.isWhole_whole _) gV (Memref.isWhole_whole _)
    gO (Memref.isWhole_whole _) gR (Memref.isWhole_whole _) sC (Memref.isWhole_whole _) rC (Memref.isWhole_whole _)
    sL (Memref.isWhole_whole _) rL (Memref.isWhole_whole _) cc0_scratch4 cc0_scratch5 cc0_scratch6 cc0_scratch7 cc0_scoped0

/-- The device's own receive slots of step `s`. -/
def mine (s : Fin 3) (c : Dev nD) : sProp 𝕄 := iprop(loose rC (qC s) c ∗ loose rL (qL s) c)

def barPre (c : Dev nD) : sProp 𝕄 :=
  iprop(cred (tallyAt ((c : Thread nD τ), .reg barS) () 3) ∗ atPos ER ((c : Thread nD τ), .reg barS) 0 ∅ 0
    ∗ dutyTok ER ((partner 0 c : Thread nD τ), .reg barS) 0 0 ∗ dutyTok ER ((partner 1 c : Thread nD τ), .reg barS) 0 1
    ∗ dutyTok ER ((partner 2 c : Thread nD τ), .reg barS) 0 2)
def extPre (c : Dev nD) : sProp 𝕄 :=
  iprop(cred (tallyAt ((c : Thread nD τ), .reg extS) () 3) ∗ atPos ER ((c : Thread nD τ), .reg extS) 0 ∅ 0
    ∗ dutyTok ER ((partner 0 c : Thread nD τ), .reg extS) 0 0 ∗ dutyTok ER ((partner 1 c : Thread nD τ), .reg extS) 0 1
    ∗ dutyTok ER ((partner 2 c : Thread nD τ), .reg extS) 0 2)

def inputs (c : Dev nD) : sProp 𝕄 := iprop(atX m ρ c ∗ atQ m ρ c ∗ atK m ρ c ∗ atV m ρ c ∗ atO m ρ c)

def bodyPre (K : Dev nD × Fin 14 → ℕ) (c : Dev nD) : sProp 𝕄 :=
  iprop(recs m ρ K ∗ levAts L lv ∗ owing c (due 0 c) ∗ barPre c ∗ extPre c ∗ (mine 0 c ∗ mine 1 c ∗ mine 2 c)
    ∗ (stepPre 0 c ∗ stepPre 1 c ∗ stepPre 2 c) ∗ inputs m ρ c ∗ ∃ f, atR c f)

def bodyPost (c : Dev nD) : sProp 𝕄 :=
  iprop(owing c 0 ∗ (semVal ((c : Thread nD τ), .reg barS) 0 ∗ semVal ((c : Thread nD τ), .reg extS) 0)
    ∗ (stepPost 0 c ∗ stepPost 1 c ∗ stepPost 2 c) ∗ inputs m ρ c ∗ atR c (outv m ρ c))

theorem mine_pay (s : Fin 3) (c : Dev nD) : mine s c ⊢ payOf m ρ (partner s c) (.reg barS) s := by
  rw [pay_bar]; unfold mine barPay; rw [partner_partner]

set_option maxRecDepth 10000 in
set_option maxHeartbeats 1600000 in
theorem sound_body (K : Dev nD × Fin 14 → ℕ) (c : Dev nD) (Kt : PUnit → sProp 𝕄) :
    iprop(bodyPre m ρ K c ∗ (bodyPost m ρ c -∗ Kt ⟨⟩)) ⊢ WP c body Kt := by
  simp only [body, cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre barPre extPre inputs
  iintro ⟨⟨#HR, #Hlev, HO, ⟨HcB, HaB, TB0, TB1, TB2⟩, ⟨HcE, HaE, TE0, TE1, TE2⟩, ⟨M0, M1, M2⟩, ⟨S0, S1, S2⟩, ⟨HX, HQ, HK, HV, HW⟩, ⟨%f, Hout⟩⟩, Hk⟩
  -- the entry handshake: three signals, each with the slot its partner will write
  iapply (step_signal m ρ K c 0 _ (dev1_eq c) barS 0 rfl 0 (by decide) rfl) $$ [HO TB0 M0]
  · isplitr; · iexact HR
    isplitl [HO]; · iexact HO
    isplitl [TB0]; · iexact TB0
    iapply (mine_pay m ρ 0 c); iexact M0
  iintro HO
  iapply (step_signal m ρ K c 1 _ (dev2_eq c) barS 0 rfl 1 (by decide) rfl) $$ [HO TB1 M1]
  · isplitr; · iexact HR
    isplitl [HO]; · iexact HO
    isplitl [TB1]; · iexact TB1
    iapply (mine_pay m ρ 1 c); iexact M1
  iintro HO
  iapply (step_signal m ρ K c 2 _ (dev3_eq c) barS 0 rfl 2 (by decide) rfl) $$ [HO TB2 M2]
  · isplitr; · iexact HR
    isplitl [HO]; · iexact HO
    isplitl [TB2]; · iexact TB2
    iapply (mine_pay m ρ 2 c); iexact M2
  iintro HO
  iapply (step_wait m ρ K c (.reg barS) 0 rfl (2 + 1) 1 3 (wpE_semWait_eq 𝒱₀ (c : Thread nD τ) none Set.univ)
      (expect_reg m ρ c barS) (by decide) (by decide)) $$ [HcB HO HaB]
  · isplitr; · iexact HR
    isplitr; · iexact Hlev
    isplitl [HcB]; · iexact HcB
    isplitl [HO]; · iexact HO
    iexact HaB
  iintro ⟨HO, ZB, Hp⟩
  ihave Hp := (Entails.of_eq (rest_reg m ρ c barS)) $$ Hp
  rw [pay_bar, pay_bar, pay_bar]
  icases Hp with ⟨P0, P1, P2⟩
  -- the loads
  iapply (load_X m ρ c) $$ HX; iintro HX
  iapply (load_Q m ρ c) $$ HQ; iintro HQ
  iapply (load_K m ρ c 0 0) $$ HK; iintro HK
  iapply (load_V m ρ c 0 0) $$ HV; iintro HV
  iapply (load_K m ρ c 0 1) $$ HK; iintro HK
  iapply (load_V m ρ c 0 1) $$ HV; iintro HV
  iapply (load_K m ρ c 0 2) $$ HK; iintro HK
  iapply (load_V m ρ c 0 2) $$ HV; iintro HV
  iapply (load_K m ρ c 0 3) $$ HK; iintro HK
  iapply (load_V m ρ c 0 3) $$ HV; iintro HV
  iapply (load_K m ρ c 1 0) $$ HK; iintro HK
  iapply (load_V m ρ c 1 0) $$ HV; iintro HV
  iapply (load_K m ρ c 1 1) $$ HK; iintro HK
  iapply (load_V m ρ c 1 1) $$ HV; iintro HV
  iapply (load_K m ρ c 1 2) $$ HK; iintro HK
  iapply (load_V m ρ c 1 2) $$ HV; iintro HV
  iapply (load_K m ρ c 1 3) $$ HK; iintro HK
  iapply (load_V m ρ c 1 3) $$ HV; iintro HV
  -- the three exchanges
  iapply (exchange m ρ K 0 c _ _ (dev4_eq c) (dev5_eq c) rfl rfl) $$ [HO P0 S0]
  · isplitr; · iexact HR
    isplitr; · iexact Hlev
    isplitl [HO]; · iexact HO
    isplitl [P0]; · iexact P0
    iexact S0
  iintro ⟨HO, S0⟩
  iapply (exchange m ρ K 1 c _ _ (dev6_eq c) (dev7_eq c) rfl rfl) $$ [HO P1 S1]
  · isplitr; · iexact HR
    isplitr; · iexact Hlev
    isplitl [HO]; · iexact HO
    isplitl [P1]; · iexact P1
    iexact S1
  iintro ⟨HO, S1⟩
  iapply (exchange m ρ K 2 c _ _ (dev8_eq c) (dev9_eq c) rfl rfl) $$ [HO P2 S2]
  · isplitr; · iexact HR
    isplitr; · iexact Hlev
    isplitl [HO]; · iexact HO
    isplitl [P2]; · iexact P2
    iexact S2
  iintro ⟨HO, S2⟩
  -- the output, and the exit handshake
  iapply (load_O m ρ c) $$ HW; iintro HW
  iapply (store_R c f) $$ Hout; iintro Hout
  iapply (step_signal m ρ K c 0 _ (dev10_eq c) extS 1 rfl 9 (by decide) rfl) $$ [HO TE0]
  · isplitr; · iexact HR
    isplitl [HO]; · iexact HO
    isplitl [TE0]; · iexact TE0
    rw [pay_ext]; iempintro
  iintro HO
  iapply (step_signal m ρ K c 1 _ (dev11_eq c) extS 1 rfl 10 (by decide) rfl) $$ [HO TE1]
  · isplitr; · iexact HR
    isplitl [HO]; · iexact HO
    isplitl [TE1]; · iexact TE1
    rw [pay_ext]; iempintro
  iintro HO
  iapply (step_signal m ρ K c 2 _ (dev12_eq c) extS 1 rfl 11 (by decide) rfl) $$ [HO TE2]
  · isplitr; · iexact HR
    isplitl [HO]; · iexact HO
    isplitl [TE2]; · iexact TE2
    rw [pay_ext]; iempintro
  iintro HO
  iapply (step_wait m ρ K c (.reg extS) 1 rfl (11 + 1) 5 3 (wpE_semWait_eq 𝒱₀ (c : Thread nD τ) none Set.univ)
      (expect_reg m ρ c extS) (by decide) (by decide)) $$ [HcE HO HaE]
  · isplitr; · iexact HR
    isplitr; · iexact Hlev
    isplitl [HcE]; · iexact HcE
    isplitl [HO]; · iexact HO
    iexact HaE
  iintro ⟨HO, ZE, -⟩
  unfold WP; rw [wp_ret]; imodintro
  iapply Hk
  unfold bodyPost inputs
  isplitl [HO]; · iexact HO
  isplitl [ZB ZE]
  · isplitl [ZB]; · iexact ZB
    iexact ZE
  isplitl [S0 S1 S2]
  · isplitl [S0]; · iexact S0
    isplitl [S1]; · iexact S1
    iexact S2
  isplitl [HX HQ HK HV HW]
  · isplitl [HX]; · iexact HX
    isplitl [HQ]; · iexact HQ
    isplitl [HK]; · iexact HK
    isplitl [HV]; · iexact HV
    iexact HW
  iexact Hout

end Cert.KernelIdeal.Net
-- ==== Proof.KernelIdealSlots.lean ====
/-
# One launch of the exchange: the scratch slots, the launch data, the body obligation
-/
module

public import proofs.«01_k».proof.Proof.KernelIdealBody

@[expose] public section

set_option backward.proofsInPublic true

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer as its three slots -/

omit [FloatOps F] in
theorem split_three (ℓ : Loc nD τ sig) (K : Fin 3 → Finset (Idx ℓ)) (hd : ∀ s t, s ≠ t → Disjoint (K s) (K t))
    (hu : ∀ i, ∃ s, i ∈ K s) :
    (iprop(∃ f : Buf (Elt F) ℓ, ℓ ↦{fullShare} f) : sProp 𝕄)
      ⊢ iprop((∃ f, ℓ ↦[K 0]{fullShare} f) ∗ (∃ f, ℓ ↦[K 1]{fullShare} f) ∗ ∃ f, ℓ ↦[K 2]{fullShare} f) := by
  have hu : Finset.univ.biUnion K = Finset.univ := by
    ext i; simpa only [Finset.mem_biUnion, Finset.mem_univ, true_and, iff_true] using hu i
  iintro ⟨%f, H⟩
  have h : (ℓ ↦{fullShare} f : sProp 𝕄) ⊢ iprop((ℓ ↦[K 0]{fullShare} f) ∗ (ℓ ↦[K 1]{fullShare} f) ∗ ℓ ↦[K 2]{fullShare} f) := by
    rw [← hu, pointsTo_biUnion Finset.univ K fun s _ t _ => hd s t]
    exact Entails.of_eq (bigSep_univ_eq_bigSepL [0, 1, 2] (by decide) (by decide) _)
  ihave H := h $$ H
  icases H with ⟨H0, H1, H2⟩
  isplitl [H0]; · iexists f; iexact H0
  isplitl [H1]; · iexists f; iexact H1
  iexists f; iexact H2

omit [FloatOps F] in
theorem join_three (ℓ : Loc nD τ sig) (K : Fin 3 → Finset (Idx ℓ)) (hd : ∀ s t, s ≠ t → Disjoint (K s) (K t))
    (hu : ∀ i, ∃ s, i ∈ K s) :
    (iprop((∃ f : Buf (Elt F) ℓ, ℓ ↦[K 0]{fullShare} f) ∗ (∃ f : Buf (Elt F) ℓ, ℓ ↦[K 1]{fullShare} f) ∗ ∃ f : Buf (Elt F) ℓ, ℓ ↦[K 2]{fullShare} f) : sProp 𝕄)
      ⊢ iprop(∃ f : Buf (Elt F) ℓ, ℓ ↦{fullShare} f) := by
  iintro ⟨⟨%f, H0⟩, ⟨%g, H1⟩, ⟨%h, H2⟩⟩
  ihave H01 := (pointsTo_join (hd 0 1 (by decide))) $$ [H0 H1]
  · isplitl [H0] <;> iassumption
  ihave H := (pointsTo_join (Finset.disjoint_union_left.mpr ⟨hd 0 2 (by decide), hd 1 2 (by decide)⟩)) $$ [H01 H2]
  · isplitl [H01] <;> iassumption
  have e : (K 0 ∪ K 1) ∪ K 2 = Finset.univ := by
    ext i
    simp only [Finset.mem_union, Finset.mem_univ, iff_true]
    obtain ⟨s, hs⟩ := hu i
    fin_cases s
    · exact Or.inl (Or.inl hs)
    · exact Or.inl (Or.inr hs)
    · exact Or.inr hs
  rw [e]
  iexists _; iexact H

theorem sepC (s t : Fin 3) (h : s ≠ t) : Disjoint (qC s).set (qC t).set := by
  refine Rect.unit_disjoint (0 : Fin 4) ?_
  revert s t; decide
theorem sepL (s t : Fin 3) (h : s ≠ t) : Disjoint (qL s).set (qL t).set := by
  refine Rect.unit_disjoint (0 : Fin 3) ?_
  revert s t; decide
theorem offC_eq : ∀ (s : Fin 3) (a : Fin 4), offC s a = if a = 0 then s.val else 0 := by decide
theorem sizeC_eq : ∀ a : Fin 4, S1x2x256x256.size a = if a = 0 then 1 else S3x2x256x256.size a := by decide
theorem coverC (i : S3x2x256x256.Idx) : ∃ s, i ∈ (qC s).set := by
  refine ⟨⟨i (0 : Fin 4), (i (0 : Fin 4)).isLt⟩, Rect.mem_set_unit.mpr fun a => ?_⟩
  have hi : (i a : ℕ) < S3x2x256x256.size a := (i a).isLt
  rw [offC_eq, sizeC_eq]
  by_cases ha : a = (0 : Fin 4)
  · subst ha; rw [if_pos rfl, if_pos rfl]; exact ⟨Nat.le_refl _, Nat.lt_succ_self _⟩
  · rw [if_neg ha, if_neg ha, Nat.zero_add]; exact ⟨Nat.zero_le _, hi⟩
theorem offL_eq : ∀ (s : Fin 3) (a : Fin 3), offL s a = if a = 0 then s.val else 0 := by decide
theorem sizeL_eq : ∀ a : Fin 3, S1x8x256.size a = if a = 0 then 1 else S3x8x256.size a := by decide
theorem coverL (i : S3x8x256.Idx) : ∃ s, i ∈ (qL s).set := by
  refine ⟨⟨i (0 : Fin 3), (i (0 : Fin 3)).isLt⟩, Rect.mem_set_unit.mpr fun a => ?_⟩
  have hi : (i a : ℕ) < S3x8x256.size a := (i a).isLt
  rw [offL_eq, sizeL_eq]
  by_cases ha : a = (0 : Fin 3)
  · subst ha; rw [if_pos rfl, if_pos rfl]; exact ⟨Nat.le_refl _, Nat.lt_succ_self _⟩
  · rw [if_neg ha, if_neg ha, Nat.zero_add]; exact ⟨Nat.zero_le _, hi⟩

/-- The three slots of a buffer, each at some contents. -/
def threeC (M : Memref sig .tc .vmem S3x2x256x256 .bf16) (c : Dev nD) : sProp 𝕄 := iprop(loose M (qC 0) c ∗ loose M (qC 1) c ∗ loose M (qC 2) c)
def threeL (M : Memref sig .tc .vmem S3x8x256 .f32) (c : Dev nD) : sProp 𝕄 := iprop(loose M (qL 0) c ∗ loose M (qL 1) c ∗ loose M (qL 2) c)

section Buffers
variable (c : Dev nD)

/-- A scratch buffer of device `c` at some contents. -/
abbrev some_at (b : Ref sig .tc) (c : Dev nD) : sProp 𝕄 := iprop(∃ f : Buf (Elt F) ((c : Thread nD τ).loc b), ((c : Thread nD τ).loc b) ↦{fullShare} f)

theorem loose_sC (s : Fin 3) : (loose sC (qC s) c : sProp 𝕄)
    = iprop(∃ f : Buf (Elt F) ((c : Thread nD τ).loc cc0_scratch0), ((c : Thread nD τ).loc cc0_scratch0) ↦[(qC s).set]{fullShare} f) :=
  congrArg (fun K : Finset (Idx ((c : Thread nD τ).loc cc0_scratch0)) =>
    (iprop(∃ f : Buf (Elt F) ((c : Thread nD τ).loc cc0_scratch0), ((c : Thread nD τ).loc cc0_scratch0) ↦[K]{fullShare} f) : sProp 𝕄))
    (View.set_slice_whole cc0_scratch0 (qC s))
theorem loose_rC (s : Fin 3) : (loose rC (qC s) c : sProp 𝕄)
    = iprop(∃ f : Buf (Elt F) ((c : Thread nD τ).loc cc0_scratch1), ((c : Thread nD τ).loc cc0_scratch1) ↦[(qC s).set]{fullShare} f) :=
  congrArg (fun K : Finset (Idx ((c : Thread nD τ).loc cc0_scratch1)) =>
    (iprop(∃ f : Buf (Elt F) ((c : Thread nD τ).loc cc0_scratch1), ((c : Thread nD τ).loc cc0_scratch1) ↦[K]{fullShare} f) : sProp 𝕄))
    (View.set_slice_whole cc0_scratch1 (qC s))
theorem loose_sL (s : Fin 3) : (loose sL (qL s) c : sProp 𝕄)
    = iprop(∃ f : Buf (Elt F) ((c : Thread nD τ).loc cc0_scratch2), ((c : Thread nD τ).loc cc0_scratch2) ↦[(qL s).set]{fullShare} f) :=
  congrArg (fun K : Finset (Idx ((c : Thread nD τ).loc cc0_scratch2)) =>
    (iprop(∃ f : Buf (Elt F) ((c : Thread nD τ).loc cc0_scratch2), ((c : Thread nD τ).loc cc0_scratch2) ↦[K]{fullShare} f) : sProp 𝕄))
    (View.set_slice_whole cc0_scratch2 (qL s))
theorem loose_rL (s : Fin 3) : (loose rL (qL s) c : sProp 𝕄)
    = iprop(∃ f : Buf (Elt F) ((c : Thread nD τ).loc cc0_scratch3), ((c : Thread nD τ).loc cc0_scratch3) ↦[(qL s).set]{fullShare} f) :=
  congrArg (fun K : Finset (Idx ((c : Thread nD τ).loc cc0_scratch3)) =>
    (iprop(∃ f : Buf (Elt F) ((c : Thread nD τ).loc cc0_scratch3), ((c : Thread nD τ).loc cc0_scratch3) ↦[K]{fullShare} f) : sProp 𝕄))
    (View.set_slice_whole cc0_scratch3 (qL s))

theorem open_sC : (some_at cc0_scratch0 c : sProp 𝕄) ⊢ threeC sC c := by
  unfold threeC; rw [loose_sC, loose_sC, loose_sC]
  exact split_three ((c : Thread nD τ).loc cc0_scratch0) (fun s => (qC s).set) sepC coverC
theorem open_rC : (some_at cc0_scratch1 c : sProp 𝕄) ⊢ threeC rC c := by
  unfold threeC; rw [loose_rC, loose_rC, loose_rC]
  exact split_three ((c : Thread nD τ).loc cc0_scratch1) (fun s => (qC s).set) sepC coverC
theorem open_sL : (some_at cc0_scratch2 c : sProp 𝕄) ⊢ threeL sL c := by
  unfold threeL; rw [loose_sL, loose_sL, loose_sL]
  exact split_three ((c : Thread nD τ).loc cc0_scratch2) (fun s => (qL s).set) sepL coverL
theorem open_rL : (some_at cc0_scratch3 c : sProp 𝕄) ⊢ threeL rL c := by
  unfold threeL; rw [loose_rL, loose_rL, loose_rL]
  exact split_three ((c : Thread nD τ).loc cc0_scratch3) (fun s => (qL s).set) sepL coverL
theorem close_sC : threeC sC c ⊢ (some_at cc0_scratch0 c : sProp 𝕄) := by
  unfold threeC; rw [loose_sC, loose_sC, loose_sC]
  exact join_three ((c : Thread nD τ).loc cc0_scratch0) (fun s => (qC s).set) sepC coverC
theorem close_rC : threeC rC c ⊢ (some_at cc0_scratch1 c : sProp 𝕄) := by
  unfold threeC; rw [loose_rC, loose_rC, loose_rC]
  exact join_three ((c : Thread nD τ).loc cc0_scratch1) (fun s => (qC s).set) sepC coverC
theorem close_sL : threeL sL c ⊢ (some_at cc0_scratch2 c : sProp 𝕄) := by
  unfold threeL; rw [loose_sL, loose_sL, loose_sL]
  exact join_three ((c : Thread nD τ).loc cc0_scratch2) (fun s => (qL s).set) sepL coverL
theorem close_rL : threeL rL c ⊢ (some_at cc0_scratch3 c : sProp 𝕄) := by
  unfold threeL; rw [loose_rL, loose_rL, loose_rL]
  exact join_three ((c : Thread nD τ).loc cc0_scratch3) (fun s => (qL s).set) sepL coverL

end Buffers

end Cert.KernelIdeal.Net
-- ==== Proof.KernelIdealLaunch.lean ====
/-
# The launch: data of the one region, its ghost state, and the run
-/
module

public import proofs.«01_k».proof.Proof.KernelIdealSlots
public import Idealize.ShloMosaic.Lib.Pipeline.CollectiveSegs

@[expose] public section

set_option backward.proofsInPublic true

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The duty tokens -/

/-- Eighteen duties per device: the entry barrier's three, the exit barrier's three, one per transfer cell.
    The cell, the duty, and the step of the partner that pays it (`none`: the device itself). -/
def tokCell : Fin 18 → Fin 14 := ![0, 0, 0, 1, 1, 1, 2, 3, 4, 5, 6, 7, 8, 9, 10, 11, 12, 13]
def tokDuty : Fin 18 → Fin 3 := ![0, 1, 2, 0, 1, 2, 0, 0, 0, 0, 0, 0, 0, 0, 0, 0, 0, 0]
def tokStep : Fin 18 → Option (Fin 3) :=
  ![some 0, some 1, some 2, some 0, some 1, some 2, none, none, none, some 0, some 1, some 2, none, none, none, some 0, some 1, some 2]
def payer (t : Fin 18) (c : Dev nD) : Dev nD := match tokStep t with | some s => partner s c | none => c
theorem payer_payer (t : Fin 18) (c : Dev nD) : payer t (payer t c) = c := by
  unfold payer
  cases tokStep t with
  | none => rfl
  | some s => exact partner_partner s c
/-- Swapping each token with its payer. -/
def deal : Dev nD × Fin 18 ≃ Dev nD × Fin 18 where
  toFun x := (payer x.2 x.1, x.2)
  invFun x := (payer x.2 x.1, x.2)
  left_inv x := Prod.ext (payer_payer x.2 x.1) rfl
  right_inv x := Prod.ext (payer_payer x.2 x.1) rfl

def tok (x : Dev nD × Fin 18) : sProp 𝕄 := dutyTok ER (kcell (x.1, tokCell x.2)) 0 (tokDuty x.2)
/-- The tokens of the device's own cells; the tokens it pays with. -/
def toks (c : Dev nD) : sProp 𝕄 := bigSep Finset.univ fun t : Fin 18 => tok (c, t)
def payToks (c : Dev nD) : sProp 𝕄 := bigSep Finset.univ fun t : Fin 18 => tok (payer t c, t)
/-- Its positions. -/
def places (c : Dev nD) : sProp 𝕄 := bigSep Finset.univ fun j : Fin 14 => atPos ER (kcell (c, j)) 0 ∅ 0

/-- The cells others pay into, and how much. -/
def credCell : Fin 8 → Fin 14 := ![0, 1, 5, 6, 7, 11, 12, 13]
def credAmt : Fin 8 → ℕ := ![3, 3, nC, nC, nC, nL, nL, nL]
def creds (c : Dev nD) : sProp 𝕄 := bigSep Finset.univ fun i : Fin 8 => cred (tallyAt (kcell (c, credCell i)) () (credAmt i))

theorem payToks_eq (c : Dev nD) : (payToks c : sProp 𝕄)
    = iprop(tok (payer 0 c, 0) ∗ tok (payer 1 c, 1) ∗ tok (payer 2 c, 2) ∗ tok (payer 3 c, 3) ∗ tok (payer 4 c, 4) ∗ tok (payer 5 c, 5)
      ∗ tok (payer 6 c, 6) ∗ tok (payer 7 c, 7) ∗ tok (payer 8 c, 8) ∗ tok (payer 9 c, 9) ∗ tok (payer 10 c, 10) ∗ tok (payer 11 c, 11)
      ∗ tok (payer 12 c, 12) ∗ tok (payer 13 c, 13) ∗ tok (payer 14 c, 14) ∗ tok (payer 15 c, 15) ∗ tok (payer 16 c, 16) ∗ tok (payer 17 c, 17)) :=
  bigSep_univ_eq_bigSepL [0, 1, 2, 3, 4, 5, 6, 7, 8, 9, 10, 11, 12, 13, 14, 15, 16, 17] (by decide) (by decide) _
theorem fourteen (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) _
theorem eight (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) _

/-! ## The region's data -/

def ghost (c : Dev nD) : sProp 𝕄 := iprop(∃ K, recs m ρ K ∗ places c ∗ payToks c)
def start (c : Dev nD) : sProp 𝕄 := iprop(ghost m ρ c ∗ creds c ∗ levAts L lv)
def scratch (c : Dev nD) : sProp 𝕄 := iprop(threeC sC c ∗ threeC rC c ∗ threeL sL c ∗ threeL rL c)
def Φ₀ (c : Dev nD) : sProp 𝕄 := iprop(start m ρ c ∗ scratch c)
def Φ₁ (c : Dev nD) : sProp 𝕄 :=
  iprop((semVal ((c : Thread nD τ), .reg barS) 0 ∗ semVal ((c : Thread nD τ), .reg extS) 0) ∗ stepPost 0 c ∗ stepPost 1 c ∗ stepPost 2 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m ρ c
    | ⟨1, _⟩ => inQ m ρ c
    | ⟨2, _⟩ => inK m ρ c
    | ⟨3, _⟩ => inV m ρ c
    | ⟨4, _⟩ => inO m ρ c
    | ⟨5, _⟩ => outv m ρ c
  Φ t := match t with
    | ⟨0, _⟩ => Φ₀ m ρ c
    | ⟨_ + 1, _⟩ => Φ₁ c
  q _ := fullShare
  owed t := match t with
    | ⟨0, _⟩ => due 0 c
    | ⟨_ + 1, _⟩ => 0

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def post (c : Dev nD) : sProp 𝕄 :=
  iprop(Φ₁ c ∗ (dats m ρ 0 c).owesAt () t0_0.succ ∗ stg c cc0_stg0_0 (inX m ρ c) ∗ stg c cc0_stg1_0 (inQ m ρ c) ∗ stg c cc0_stg2_0 (inK m ρ c)
    ∗ stg c cc0_stg3_0 (inV m ρ c) ∗ stg c cc0_stg4_0 (inO m ρ c) ∗ stg c cc0_stg5_0 (outv m ρ c))

/-- What the body starts from, dealt out step by step. -/
theorem pre_body (c : Dev nD) : pre m ρ c ⊢ iprop(∃ K, bodyPre m ρ K c) := by
  unfold pre Φ₀ start ghost places creds scratch threeC threeL
  rw [payToks_eq, fourteen, eight]
  unfold tok
  unfold Dat.owesAt Pipeline.owesWithin
  iintro ⟨⟨⟨⟨%K, #HR, ⟨A0, A1, A2, A3, A4, A5, A6, A7, A8, A9, A10, A11, A12, A13⟩,
      ⟨T0, T1, T2, T3, T4, T5, T6, T7, T8, T9, T10, T11, T12, T13, T14, T15, T16, T17⟩⟩, ⟨C0, C1, C2, C3, C4, C5, C6, C7⟩, #Hlev⟩,
      ⟨U0, U1, U2⟩, ⟨V0, V1, V2⟩, ⟨W0, W1, W2⟩, ⟨X0, X1, X2⟩⟩, ⟨%W, -, HO⟩,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = inX m ρ c := by rw [hg0]; unfold Dat.before; rw [if_pos (fetch0_0 t0_0)]; rfl
  have h1 : g1 = inQ m ρ c := by rw [hg1]; unfold Dat.before; rw [if_pos (fetch0_1 t0_0)]; rfl
  have h2 : g2 = inK m ρ c := by rw [hg2]; unfold Dat.before; rw [if_pos (fetch0_2 t0_0)]; rfl
  have h3 : g3 = inV m ρ c := by rw [hg3]; unfold Dat.before; rw [if_pos (fetch0_3 t0_0)]; rfl
  have h4 : g4 = inO m ρ c := by rw [hg4]; unfold Dat.before; rw [if_pos (fetch0_4 t0_0)]; rfl
  subst h0 h1 h2 h3 h4
  iexists K
  unfold bodyPre barPre extPre mine stepPre inputs atX atQ atK atV atO atR
  isplitr; · iexact HR
  isplitr; · iexact Hlev
  isplitl [HO]; · unfold owing; iexists W; iexact HO
  isplitl [C0 A0 T0 T1 T2]
  · isplitl [C0]; · iexact C0
    isplitl [A0]; · iexact A0
    isplitl [T0]; · iexact T0
    isplitl [T1]; · iexact T1
    iexact T2
  isplitl [C1 A1 T3 T4 T5]
  · isplitl [C1]; · iexact C1
    isplitl [A1]; · iexact A1
    isplitl [T3]; · iexact T3
    isplitl [T4]; · iexact T4
    iexact T5
  isplitl [V0 V1 V2 X0 X1 X2]
  · isplitl [V0 X0]; · isplitl [V0] <;> iassumption
    isplitl [V1 X1]; · isplitl [V1] <;> iassumption
    isplitl [V2] <;> iassumption
  isplitl [C2 C3 C4 C5 C6 C7 A2 A3 A4 A5 A6 A7 A8 A9 A10 A11 A12 A13 T6 T7 T8 T9 T10 T11 T12 T13 T14 T15 T16 T17 U0 U1 U2 W0 W1 W2]
  · isplitl [C2 C5 A2 A5 A8 A11 T6 T9 T12 T15 U0 W0]
    · isplitl [C2]; · iexact C2
      isplitl [C5]; · iexact C5
      isplitl [A2]; · iexact A2
      isplitl [A5]; · iexact A5
      isplitl [A8]; · iexact A8
      isplitl [A11]; · iexact A11
      isplitl [T6]; · iexact T6
      isplitl [T9]; · iexact T9
      isplitl [T12]; · iexact T12
      isplitl [T15]; · iexact T15
      isplitl [U0]; · iexact U0
      iexact W0
    isplitl [C3 C6 A3 A6 A9 A12 T7 T10 T13 T16 U1 W1]
    · isplitl [C3]; · iexact C3
      isplitl [C6]; · iexact C6
      isplitl [A3]; · iexact A3
      isplitl [A6]; · iexact A6
      isplitl [A9]; · iexact A9
      isplitl [A12]; · iexact A12
      isplitl [T7]; · iexact T7
      isplitl [T10]; · iexact T10
      isplitl [T13]; · iexact T13
      isplitl [T16]; · iexact T16
      isplitl [U1]; · iexact U1
      iexact W1
    isplitl [C4]; · iexact C4
    isplitl [C7]; · iexact C7
    isplitl [A4]; · iexact A4
    isplitl [A7]; · iexact A7
    isplitl [A10]; · iexact A10
    isplitl [A13]; · iexact A13
    isplitl [T8]; · iexact T8
    isplitl [T11]; · iexact T11
    isplitl [T14]; · iexact T14
    isplitl [T17]; · iexact T17
    isplitl [U2]; · iexact U2
    iexact W2
  isplitl [H0 H1 H2 H3 H4]
  · isplitl [H0]; · iexact H0
    isplitl [H1]; · iexact H1
    isplitl [H2]; · iexact H2
    isplitl [H3]; · iexact H3
    iexact H4
  iexists g5; iexact H5

theorem body_post (c : Dev nD) : bodyPost m ρ c ⊢ post m ρ c := by
  unfold bodyPost post Φ₁ Dat.owesAt Pipeline.owesWithin owing inputs atX atQ atK atV atO atR
  rw [show (dats m ρ 0 c).owed t0_0.succ = 0 from rfl]
  iintro ⟨⟨%W, HO⟩, HZ, HS, ⟨H0, H1, H2, H3, H4⟩, H5⟩
  isplitl [HZ HS]; · isplitl [HZ] <;> iassumption
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_stage]
  show pre m ρ c ⊢ WP c body (fun _ => post m ρ c)
  iintro H
  ihave H := (pre_body m ρ c) $$ H
  icases H with ⟨%K, H⟩
  iapply (sound_body m ρ K c fun _ => post m ρ c)
  isplitl [H]; · iexact H
  iintro H
  iapply (body_post m ρ c)
  iexact H

/-! ## The ghost state at launch -/

/-- The kernel's own semaphores: the exit barrier and the transfer semaphores. -/
abbrev osem (k : Fin 13) : SemLoc sig := csem k.succ
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 14 → GSem nD τ sig) := by
  rintro ⟨c, k⟩ ⟨c', k'⟩ h
  have h1 : c = c' := congrArg (fun g : GSem nD τ sig => g.1.1) h
  have h2 : k = k' := csem_inj (congrArg Prod.snd h)
  rw [h1, h2]
def cells : Finset (GSem nD τ sig) := Finset.univ.map ⟨kcell, kcell_injective⟩

theorem tok_pair_injective : Function.Injective fun t : Fin 18 => (tokCell t, tokDuty t) := by decide
abbrev tokOf (x : Dev nD × Fin 18) : GSem nD τ sig × ℕ × Fin 3 := (kcell (x.1, tokCell x.2), 0, tokDuty x.2)
theorem tokOf_injective : Function.Injective tokOf := by
  rintro ⟨c, t⟩ ⟨c', t'⟩ h
  have h1 := kcell_injective (congrArg Prod.fst h)
  have h2 : tokDuty t = tokDuty t' := congrArg (fun x : GSem nD τ sig × ℕ × Fin 3 => x.2.2) h
  have h3 : t = t' := tok_pair_injective (Prod.ext (congrArg Prod.snd h1) h2)
  have h4 : c = c' := congrArg Prod.fst h1
  rw [h3, h4]
def tokens : Finset (GSem nD τ sig × ℕ × Fin 3) := Finset.univ.map ⟨tokOf, tokOf_injective⟩

def u₀ : UU :=
  (initOf (Pipeline.cells cfgs cellOf_inj) (Pipeline.launchToks cfgs cellOf_inj), initOf cells tokens)

/-- What the launch element deals device `c`. -/
def G (c : Dev nD) : sProp 𝕄 :=
  iprop((bigSep Finset.univ fun k : Fin 14 => roundState ER (Rd m ρ) (kcell (c, k)) 0)
    ∗ (places c ∗ bigSep Finset.univ fun k : Fin 14 => reached ER (kcell (c, k)) 0) ∗ toks c)

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : Fin 14 => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]; rfl
  iintro HX
  imod (Rounds.fund ER (Rd m ρ) cells tokens) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0 ∗ semVal (kcell (c, 12)) 0 ∗ semVal (kcell (c, 13)) 0) := by
  rw [Pipeline.ownSems0_eq_of_list c osem [0, 1, 2, 3, 4, 5, 6, 7, 8, 9, 10, 11, 12] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 14 => semVal (kcell (c, k)) 0 : sProp 𝕄) := by
  rw [ownSems0_eq, unscopedSems0_eq, fourteen]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (places c ∗ bigSep Finset.univ fun k : Fin 14 => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 14 => semVal (kcell (c, k)) 0) ∗ bigSep Finset.univ fun k : Fin 14 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem toks_around : (bigSep Finset.univ fun c : Dev nD => (toks c : sProp 𝕄)) ⊢ bigSep Finset.univ fun c : Dev nD => payToks c := by
  unfold toks payToks
  rw [← bigSep_univ_prod (fun x : Dev nD × Fin 18 => (tok x : sProp 𝕄)), bigSep_univ_equiv deal (fun x : Dev nD × Fin 18 => (tok x : sProp 𝕄)), bigSep_univ_prod]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (places c ∗ bigSep Finset.univ fun k : Fin 14 => reached ER (kcell (c, k)) 0) ∗ toks c) : sProp 𝕄)
      ⊢ bigSep Finset.univ (ghost m ρ) := by
  rw [bigSep_sep', bigSep_sep', ← bigSep_univ_prod (fun ck : Dev nD × Fin 14 => iprop(∃ κ : ℕ, cellInv ER (Rd m ρ) κ (kcell ck))),
    bigSep_sep', ← bigSep_univ_prod (fun ck : Dev nD × Fin 14 => (reached ER (kcell ck) 0 : sProp 𝕄))]
  iintro ⟨HI, ⟨Hat, #HR⟩, Htok⟩
  ihave HK := (BI.bigSep_exists_pi Finset.univ (fun (ck : Dev nD × Fin 14) (κ : ℕ) => (cellInv ER (Rd m ρ) κ (kcell ck) : sProp 𝕄))) $$ HI
  icases HK with ⟨%K, #HI⟩
  ihave Htk := (toks_around (F := F)) $$ Htok
  iapply (with_persistent (R := recs m ρ K) (Φ := fun c => iprop(places c ∗ payToks c)) fun c _ => show _ ⊢ ghost m ρ c from by
    unfold ghost; iintro ⟨HR, H⟩; iexists K; isplitl [HR]; · iexact HR
    iexact H)
  isplitr
  · unfold recs; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ### The launch credit -/

/-- What a list of debts comes to at a cell. -/
theorem owe_at (l : List ((Dev nD × Fin 14) × ℕ)) (x : Dev nD × Fin 14) :
    owe (l.map fun p => (kcell p.1, p.2)) (kcell x) () = (l.map fun p => if p.1 = x then p.2 else 0).sum := by
  induction l with
  | nil => rfl
  | cons p l ih =>
    rw [List.map_cons, List.map_cons, List.sum_cons, ← ih]
    show (owe (l.map fun p => (kcell p.1, p.2)) + tallyAt (kcell p.1) () p.2) (kcell x) () = _
    rw [Pi.add_apply, Finsupp.add_apply, tallyAt_apply, Nat.add_comm]
    congr 1
    by_cases h : p.1 = x
    · rw [if_pos h, if_pos ⟨by rw [h], rfl⟩]
    · rw [if_neg h, if_neg fun h' => h (kcell_injective h'.1).symm]

/-- Amounts, by which of the three they are. -/
def price : Fin 3 → ℕ := ![1, nC, nL]
def debts' (c : Dev nD) : List ((Dev nD × Fin 14) × Fin 3) :=
  [((partner 0 c, 0), 0), ((partner 1 c, 0), 0), ((partner 2 c, 0), 0),
   ((partner 0 c, 5), 1), ((partner 0 c, 11), 2), ((partner 1 c, 6), 1), ((partner 1 c, 12), 2),
   ((partner 2 c, 7), 1), ((partner 2 c, 13), 2),
   ((partner 0 c, 1), 0), ((partner 1 c, 1), 0), ((partner 2 c, 1), 0)]
def times (k : Fin 3) (d : Dev nD) (x : Dev nD × Fin 14) : ℕ := ((debts' d).map fun p => if p.1 = x ∧ p.2 = k then 1 else 0).sum

theorem sum_times (l : List ((Dev nD × Fin 14) × Fin 3)) (x : Dev nD × Fin 14) :
    (l.map fun p => if p.1 = x then price p.2 else 0).sum
      = ∑ k : Fin 3, (l.map fun p => if p.1 = x ∧ p.2 = k then 1 else 0).sum * price k := by
  induction l with
  | nil => simp
  | cons p l ih =>
    simp only [List.map_cons, List.sum_cons, Nat.add_mul, Finset.sum_add_distrib, ih]
    congr 1
    by_cases h : p.1 = x
    · simp [h]
    · simp [h]

theorem times_total : ∀ (i : Fin 8) (c : Dev nD) (k : Fin 3), (∑ d : Dev nD, times k d (c, credCell i))
    = if k = ![0, 0, 1, 1, 1, 2, 2, 2] i then (![3, 3, 1, 1, 1, 1, 1, 1] : Fin 8 → ℕ) i else 0 := by decide

theorem credit_at (c : Dev nD) (i : Fin 8) :
    tallyOn (kcell (c, credCell i)) (launchCredit (Pipeline.owing (due 0)) 0 (kcell (c, credCell i)))
      = (tallyAt (kcell (c, credCell i)) () (credAmt i) : CellTallies nD τ sig Unit) := by
  unfold tallyAt; refine congrArg _ (Finsupp.ext fun u => ?_); cases u
  rw [Pipeline.launchCredit_owing, Finsupp.single_eq_same]
  have h : ∀ d : Dev nD, due 0 d (kcell (c, credCell i)) () = ∑ k : Fin 3, times k d (c, credCell i) * price k := fun d => by
    unfold due
    rw [owe_at]
    exact sum_times (debts' d) (c, credCell i)
  rw [Finset.sum_congr rfl fun d _ => h d, Finset.sum_comm, Finset.sum_congr rfl fun k _ => (Finset.sum_mul _ _ _).symm]
  simp only [times_total]
  fin_cases i <;> simp [Fin.sum_univ_three, price, credAmt]

theorem credCell_injective : Function.Injective fun i : Fin 8 => csem (credCell i) := by decide

theorem creds_intro (c : Dev nD) : (Pipeline.launchCred (due 0) c : sProp 𝕄) ⊢ creds c := by
  unfold Pipeline.launchCred creds
  refine (bigSep_subset (Finset.subset_univ (Finset.univ.map ⟨_, credCell_injective⟩))).trans ?_
  rw [bigSep_map]
  exact bigSep_mono fun i _ => Entails.of_eq (congrArg cred (credit_at c i))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred (due 0) c ∗ prngReg c (ρ c) ∗ ghost m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, H0, H1, H2, H3⟩
  isplitl [Hs]; · iexact Hs
  isplitl [H0]; · iapply (open_sC c); iexact H0
  isplitl [H1]; · iapply (open_rC c); iexact H1
  isplitl [H2]; · iapply (open_sL c); iexact H2
  iapply (open_rL c); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ stepPost
  iintro ⟨⟨ZB, ZE⟩, ⟨⟨Z2, Z5, Z8, Z11⟩, U0, V0, W0, X0⟩, ⟨⟨Z3, Z6, Z9, Z12⟩, U1, V1, W1, X1⟩, ⟨⟨Z4, Z7, Z10, Z13⟩, U2, V2, W2, X2⟩⟩
  isplitl [ZB]; · iexact ZB
  isplitl [ZE Z2 Z3 Z4 Z5 Z6 Z7 Z8 Z9 Z10 Z11 Z12 Z13]
  · isplitl [ZE]; · iexact ZE
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    iexact Z13
  isplitl [U0 U1 U2]
  · iapply (close_sC c); unfold threeC; isplitl [U0]; · iexact U0
    isplitl [U1] <;> iassumption
  isplitl [V0 V1 V2]
  · iapply (close_rC c); unfold threeC; isplitl [V0]; · iexact V0
    isplitl [V1] <;> iassumption
  isplitl [W0 W1 W2]
  · iapply (close_sL c); unfold threeL; isplitl [W0]; · iexact W0
    isplitl [W1] <;> iassumption
  iapply (close_rL c); unfold threeL; isplitl [X0]; · iexact X0
  isplitl [X1] <;> iassumption

theorem stage_low : ∀ (w : Fin 6) (s : Fin (spec0 w).nbuf), level (.dma ((spec0 w).sem s)) = 0 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_due c _ 0 0 (Nat.le_of_eq (stage_low w s)) (by decide)
    · exact mayWait_due c _ 12 0 (Nat.le_of_eq (stage_low w s)) (by decide)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program terminates, with every array
    at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := due 0) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Net
-- ==== Proof.KernelIdealEnd.lean ====
/-
# The run, read at the arrays
-/
module

public import proofs.«01_k».proof.Proof.KernelIdealLaunch

@[expose] public section

set_option backward.proofsInPublic true

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array after the run: the one block written back. -/
theorem finalA_out (c : Dev nD) : finalA m ρ c (5 : Fin 6) = outv m ρ c := by
  have hw : ((cfg0.win 5).blk t0_0).view.read (Elt F) ((dats (F := F) m ρ 0 c).arrAt 5 cfg0.N)
      = (dats (F := F) m ρ 0 c).flushed 5 t0_0 := by
    rw [show cfg0.N = t0_0.val + 1 from rfl, (dats m ρ 0 c).arrAt_succ (5 : Fin 6) t0_0, flush0_5, if_pos rfl]
    exact View.read_write_univ _ _
  have hr (f : Buf (Elt F) ((cfg0.win 5).arr.view.loc (c : Thread nD τ))) : ((cfg0.win 5).blk t0_0).view.read (Elt F) f = f :=
    Memref.read_access_unit_zero (Elt F) main_v1 (funext fun a => by fin_cases a <;> rfl) _ f
  exact (hr _).symm.trans (hw.trans (by unfold Dat.flushed; rfl))

/-- Every weakly fair execution terminates: the result at `outv`, the arguments unchanged, every counter at zero. -/
theorem run_arrays : θ_run defs (onTc (τ := τ) (main (F := F))) (s₀ m ρ) (fun r => (∀ c : Dev nD,
      r.2.mem ((c.tc : Thread nD τ).loc main_v1) = outv m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨(h.1 c (5 : Fin 6)).trans (finalA_out m ρ c),
      (h.1 c (0 : Fin 6)).trans ((dats m ρ 0 c).arrAt_in (0 : Fin 6) rfl _), (h.1 c (1 : Fin 6)).trans ((dats m ρ 0 c).arrAt_in (1 : Fin 6) rfl _),
      (h.1 c (2 : Fin 6)).trans ((dats m ρ 0 c).arrAt_in (2 : Fin 6) rfl _), (h.1 c (3 : Fin 6)).trans ((dats m ρ 0 c).arrAt_in (3 : Fin 6) rfl _),
      (h.1 c (4 : Fin 6)).trans ((dats m ρ 0 c).arrAt_in (4 : Fin 6) rfl _)⟩, h.2⟩) (run_main m ρ)

end Cert.KernelIdeal.Net
-- ==== Proof.AttnModel.lean ====
module

public import Idealize.ShloMosaic.Lib.Pointwise

@[expose] public section

set_option maxRecDepth 16384

noncomputable section

/-! Sparse attention over the whole sequence, as a function of the whole arrays, in the two forms the two programs
compute: the kernel divides the weighted sums by the sum of the weights once at the end and takes no maximum; the
reference takes the maximum of a row of scores from the row and divides each weight. The two are one when the scores
are real numbers. -/

namespace Cert.Attn

open Idealize.ShloMosaic

/-! ## The mask -/

/-- Block `q` of queries sees block `k` of keys: its own, the first, and every third. -/
def live (q k : ℕ) : Bool := decide (q = k) || decide (k = 0) || decide ((q + k) % 3 = 0)

/-- The mask at a query and a key. -/
def mask (i : Fin 256) (J : Fin 2048) : BitVec 1 := BitVec.ofBool (live (i / 64) (J / 64))

/-! ## The arrays -/

abbrev AX : Type := (⟨3, ![2, 256, 512]⟩ : Shape).Idx → EReal
abbrev AQ : Type := (⟨2, ![512, 256]⟩ : Shape).Idx → EReal
abbrev AK : Type := (⟨4, ![2, 2048, 4, 64]⟩ : Shape).Idx → EReal
abbrev AO : Type := (⟨2, ![256, 512]⟩ : Shape).Idx → EReal

/-- The factor on the scores, one eighth. -/
def scale : EReal := Ideal.ofBits .f32 1040187392#32
/-- The score of a masked key. -/
def low : EReal := Ideal.ofBits .f32 3463342888#32

theorem scale_real : ∃ r : ℝ, scale = (r : EReal) :=
  ⟨1 / 8, by simp [scale, Ideal.ofBits, Ideal.ieee, -EReal.coe_mul]; norm_num⟩
theorem low_real : ∃ r : ℝ, low = (r : EReal) :=
  ⟨-1000000000, by simp [low, Ideal.ofBits, Ideal.ieee, -EReal.coe_mul]; norm_num⟩

/-- The query of batch `b`, row `i`, column `e`. -/
def query (x : AX) (wq : AQ) (b : Fin 2) (i e : Fin 256) : EReal := ∑ n : Fin 512, x (ix3 b i n) * wq (ix2 n e)

/-- The score of key `J` for query `i`, in batch `b` and head `h`. -/
def score (x : AX) (wq : AQ) (k : AK) (b : Fin 2) (h : Fin 4) (i : Fin 256) (J : Fin 2048) : EReal :=
  Scalar.select (mask i J)
    ((∑ d : Fin 64, query x wq b i ⟨64 * h + d, by omega⟩ * k (ix4 b J h d)) * scale) low

/-- A real-valued array. -/
def IsReal {ι : Type} (f : ι → EReal) : Prop := ∀ i, ∃ r : ℝ, f i = (r : EReal)

/-- A sum of reals is the real sum. -/
theorem coe_sum {n : ℕ} (g : Fin n → ℝ) : (∑ i, ((g i : ℝ) : EReal)) = ((∑ i, g i : ℝ) : EReal) := by
  induction n with
  | zero => simp
  | succ n ih => rw [Fin.sum_univ_castSucc, Fin.sum_univ_castSucc, ih, EReal.coe_add]

theorem isReal_sum {n : ℕ} {f : Fin n → EReal} (hf : IsReal f) : ∃ r : ℝ, ∑ i, f i = (r : EReal) := by
  choose g hg using hf
  exact ⟨∑ i, g i, by rw [show f = fun i => (g i : EReal) from funext hg]; exact coe_sum g⟩

theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem score_real {x : AX} {wq : AQ} {k : AK} (hx : IsReal x) (hq : IsReal wq) (hk : IsReal k)
    (b : Fin 2) (h : Fin 4) (i : Fin 256) : IsReal (score x wq k b h i) := fun J => by
  unfold score Scalar.select
  split
  · exact isReal_mul (isReal_sum fun d => isReal_mul (isReal_sum fun n => isReal_mul (hx _) (hq _)) (hk _)) scale_real
  · exact low_real

/-! ## The two forms -/

/-- The weighted sum of the values, with its weights unnormalised. -/
def wsum (s : Fin 2048 → EReal) (v : Fin 2048 → EReal) : EReal := ∑ J, Ideal.exp (s J) * v J

/-- The sum of the weights. -/
def total (s : Fin 2048 → EReal) : EReal := ∑ J, Ideal.exp (s J)

/-- The largest score. -/
def top (s : Fin 2048 → EReal) : EReal := Finset.univ.fold max ⊥ s

/-- The kernel's context: the weighted sum over the sum of the weights. -/
def ctxK (s v : Fin 2048 → EReal) : EReal := wsum s v * Ideal.div 1 (total s)

/-- The reference's context: weights of the scores less the largest, each divided by the sum of them. -/
def ctxR (s v : Fin 2048 → EReal) : EReal :=
  ∑ J, v J * Ideal.div (Ideal.exp (s J - top s)) (∑ J', Ideal.exp (s J' - top s))

/-- A factor that is a nonnegative real comes out of a sum. -/
theorem sum_mul_real {n : ℕ} (f : Fin n → EReal) {r : ℝ} (hr : 0 ≤ r) : ∑ i, f i * (r : EReal) = (∑ i, f i) * (r : EReal) := by
  induction n with
  | zero => simp
  | succ n ih =>
    rw [Fin.sum_univ_castSucc, Fin.sum_univ_castSucc, ih,
      EReal.right_distrib_of_nonneg_of_ne_top (EReal.coe_nonneg.mpr hr) (EReal.coe_ne_top r)]

theorem top_real {s : Fin 2048 → EReal} (hs : IsReal s) : ∃ r : ℝ, top s = (r : EReal) := by
  obtain ⟨i, -, hi⟩ := Finset.exists_mem_eq_sup (Finset.univ : Finset (Fin 2048)) ⟨0, Finset.mem_univ _⟩ s
  obtain ⟨r, hr⟩ := hs i
  exact ⟨r, (show top s = Finset.univ.sup s from rfl).trans (hi.trans hr)⟩

theorem div_real {a b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The two contexts are one when the scores are real. -/
theorem ctxR_eq_ctxK {s : Fin 2048 → EReal} (hs : IsReal s) (v : Fin 2048 → EReal) : ctxR s v = ctxK s v := by
  obtain ⟨M, hM⟩ := top_real hs
  choose g hg using hs
  obtain rfl : s = fun J => (g J : EReal) := funext hg
  have hsum : ∀ f : Fin 2048 → ℝ, (∑ J, ((f J : ℝ) : EReal)) = ((∑ J, f J : ℝ) : EReal) :=
    fun f => coe_sum f
  have hL : 0 < ∑ J, Real.exp (g J) := Finset.sum_pos (fun J _ => Real.exp_pos _) ⟨0, Finset.mem_univ _⟩
  have hL' : 0 < ∑ J, Real.exp (g J - M) := Finset.sum_pos (fun J _ => Real.exp_pos _) ⟨0, Finset.mem_univ _⟩
  have hLL : ∑ J, Real.exp (g J - M) = (∑ J, Real.exp (g J)) * Real.exp (-M) := by
    rw [Finset.sum_mul]; exact Finset.sum_congr rfl fun J _ => by rw [sub_eq_add_neg, Real.exp_add]
  unfold ctxR ctxK wsum total
  rw [hM]
  have e1 : ∀ J, Ideal.exp ((g J : EReal) - (M : EReal)) = ((Real.exp (g J - M) : ℝ) : EReal) := fun J => by
    rw [← EReal.coe_sub]; rfl
  have e2 : ∀ J, Ideal.exp (g J : EReal) = ((Real.exp (g J) : ℝ) : EReal) := fun J => rfl
  simp only [e1, e2, hsum, hLL]
  rw [hLL] at hL'
  generalize ∑ J, Real.exp (g J) = L at hL hL' ⊢
  rw [show (1 : EReal) = ((1 : ℝ) : EReal) from rfl, div_real hL, ← sum_mul_real _ (one_div_pos.mpr hL).le]
  refine Finset.sum_congr rfl fun J _ => ?_
  rw [div_real hL', mul_comm ((Real.exp (g J) : ℝ) : EReal) (v J), mul_assoc, ← EReal.coe_mul]
  have h1 := (Real.exp_pos (-M)).ne'
  have h2 := hL.ne'
  have e3 : Real.exp (g J - M) / (L * Real.exp (-M)) = Real.exp (g J) * (1 / L) := by
    rw [sub_eq_add_neg, Real.exp_add]; field_simp
  rw [e3]

/-- The values a context weighs. -/
def vals (v : AK) (b : Fin 2) (h : Fin 4) (d : Fin 64) : Fin 2048 → EReal := fun J => v (ix4 b J h d)

/-- The kernel's output. -/
def outK (x : AX) (wq : AQ) (k v : AK) (wo : AO) (b : Fin 2) (i : Fin 256) (n : Fin 512) : EReal :=
  ∑ e : Fin 256, ctxK (score x wq k b ⟨e / 64, by omega⟩ i) (vals v b ⟨e / 64, by omega⟩ ⟨e % 64, by omega⟩) * wo (ix2 e n)

/-- The reference's output. -/
def outR (x : AX) (wq : AQ) (k v : AK) (wo : AO) (b : Fin 2) (i : Fin 256) (n : Fin 512) : EReal :=
  ∑ e : Fin 256, ctxR (score x wq k b ⟨e / 64, by omega⟩ i) (vals v b ⟨e / 64, by omega⟩ ⟨e % 64, by omega⟩) * wo (ix2 e n)

theorem outR_eq_outK {x : AX} {wq : AQ} {k : AK} (hx : IsReal x) (hq : IsReal wq) (hk : IsReal k) (v : AK) (wo : AO)
    (b : Fin 2) (i : Fin 256) (n : Fin 512) : outR x wq k v wo b i n = outK x wq k v wo b i n :=
  Finset.sum_congr rfl fun e _ => by rw [ctxR_eq_ctxK (score_real hx hq hk b _ i)]

end Cert.Attn
-- ==== Proof.KernelIdealValue.lean ====
module

public import proofs.«01_k».proof.Proof.KernelIdealSched
public import proofs.«01_k».proof.Proof.AttnModel
public import Idealize.ShloMosaic.Lib.Pipeline.ValueKit

@[expose] public section

set_option backward.proofsInPublic true
set_option maxRecDepth 16384

noncomputable section

/-! The values of one device, read at an index over the extended reals: its mask, the sums it starts from, and what the
three exchanges and the last product make of them. -/

namespace Cert.KernelIdeal.Net

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The mask -/

/-- The block of a position, as the words compute it. -/
def blkWord (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

/-- The divisor of the sum of the blocks, three. -/
def threeWord : BitVec 32 := Scalar.select (Scalar.cmpi .eq 3#32 0#32) 1#32 3#32

/-- The mask of a block of queries and a block of keys, as the words compute it. -/
def maskWord (q k : BitVec 32) : BitVec 1 :=
  IntOp.ori (IntOp.ori (IntOp.cmpi .eq q k) (IntOp.cmpi .eq k 0#32))
    (IntOp.cmpi .eq
      (Scalar.select
        (IntOp.andi (IntOp.xori (IntOp.cmpi .slt (IntOp.remsi .vector (IntOp.addi q k) threeWord) 0#32) (Scalar.cmpi .slt threeWord 0#32))
          (IntOp.cmpi .ne (IntOp.remsi .vector (IntOp.addi q k) threeWord) 0#32))
        (IntOp.addi (IntOp.remsi .vector (IntOp.addi q k) threeWord) threeWord) (IntOp.remsi .vector (IntOp.addi q k) threeWord)) 0#32)

theorem blkWord_eq : ∀ i : Fin 256, blkWord (BitVec.ofNat 32 i) = BitVec.ofNat 32 ((i : ℕ) / 64) := by decide +kernel

theorem maskWord_eq : ∀ (q : Fin 4) (c : Dev nD) (k : Fin 4),
    maskWord (BitVec.ofNat 32 q) (IntOp.addi (Scalar.muli (pos c) 4#32) (BitVec.ofNat 32 k))
      = BitVec.ofBool (Cert.Attn.live q (4 * c.val + k)) := by decide +kernel

theorem keep_words (c : Dev nD) (i j : Fin 256) :
    keep c (ix2 i j) = maskWord (blkWord (BitVec.ofNat 32 i)) (IntOp.addi (Scalar.muli (pos c) 4#32) (blkWord (BitVec.ofNat 32 j))) := by
  pointwise [keep, msk, rem3, iota0, k0_pay8, k0_pay7, k0_pay6, k0_pay5, k0_pay4, k0_pay3, k0_pay2]
  rfl

/-- Key `j` of device `c`'s block, in the whole sequence. -/
def key (c : Dev nD) (j : Fin 256) : Fin 2048 := ⟨c.val * 256 + j, by have := c.isLt; have := j.isLt; simp only [nD] at *; omega⟩

theorem keep_at (c : Dev nD) (i j : Fin 256) : keep c (ix2 i j) = Cert.Attn.mask i (key c j) := by
  rw [keep_words, blkWord_eq, blkWord_eq]
  refine (maskWord_eq ⟨i / 64, by omega⟩ c ⟨j / 64, by omega⟩).trans ?_
  unfold Cert.Attn.mask
  congr 2
  show 4 * c.val + (j : ℕ) / 64 = (c.val * 256 + j) / 64
  omega

/-! ## The inputs -/

theorem ldX_eq (c : Dev nD) : ldX m ρ c = m ((c : Thread nD τ).loc main_arg0) := by
  unfold ldX
  exact (Memref.readAt_unit_zero (Elt Ideal) cc0_stg0_0 (funext fun a => by fin_cases a <;> rfl) _ _).trans
    (Memref.read_access_unit_zero (Elt Ideal) main_arg0 (funext fun a => by fin_cases a <;> rfl) _ _)

theorem ldQ_eq (c : Dev nD) : ldQ m ρ c = m ((c : Thread nD τ).loc main_arg1) := by
  unfold ldQ
  exact (Memref.readAt_unit_zero (Elt Ideal) cc0_stg1_0 (funext fun a => by fin_cases a <;> rfl) _ _).trans
    (Memref.read_access_unit_zero (Elt Ideal) main_arg1 (funext fun a => by fin_cases a <;> rfl) _ _)

theorem ldO_eq (c : Dev nD) : ldO m ρ c = m ((c : Thread nD τ).loc main_arg4) := by
  unfold ldO
  exact (Memref.readAt_unit_zero (Elt Ideal) cc0_stg4_0 (funext fun a => by fin_cases a <;> rfl) _ _).trans
    (Memref.read_access_unit_zero (Elt Ideal) main_arg4 (funext fun a => by fin_cases a <;> rfl) _ _)

theorem ldK_at (b : Fin 2) (h : Fin 4) (c : Dev nD) (j : Fin 256) (d : Fin 64) :
    ldK m ρ b h c (ix4 0 j 0 d) = m ((c : Thread nD τ).loc main_arg2) (ix4 b j h d) := by
  have e : inK m ρ c = m ((c : Thread nD τ).loc main_arg2) :=
    Memref.read_access_unit_zero (Elt Ideal) main_arg2 (funext fun a => by fin_cases a <;> rfl) _ _
  unfold ldK
  rw [e]
  show m _ _ = _
  congr 1
  funext a
  apply Fin.ext
  refine (Rect.idx_unit_val _ _ _ _ _).trans ?_
  fin_cases b <;> fin_cases h <;> fin_cases a <;> simp [offH]

theorem ldV_at (b : Fin 2) (h : Fin 4) (c : Dev nD) (j : Fin 256) (d : Fin 64) :
    ldV m ρ b h c (ix4 0 j 0 d) = m ((c : Thread nD τ).loc main_arg3) (ix4 b j h d) := by
  have e : inV m ρ c = m ((c : Thread nD τ).loc main_arg3) :=
    Memref.read_access_unit_zero (Elt Ideal) main_arg3 (funext fun a => by fin_cases a <;> rfl) _ _
  unfold ldV
  rw [e]
  show m _ _ = _
  congr 1
  funext a
  apply Fin.ext
  refine (Rect.idx_unit_val _ _ _ _ _).trans ?_
  fin_cases b <;> fin_cases h <;> fin_cases a <;> simp [offH]

/-! ## What a device starts from -/

/-- Row `i` of batch `b`, among the rows of both batches. -/
def qi (b : Fin 2) (i : Fin 256) : Fin 512 := ⟨b * 256 + i, by omega⟩
/-- Lane `d` of head `h`, among the lanes of all heads. -/
def ei (h : Fin 4) (d : Fin 64) : Fin 256 := ⟨64 * h + d, by omega⟩

theorem qi0 (i : Fin 256) : qi 0 i = ⟨i, by omega⟩ := Fin.ext (by simp [qi])
theorem qi1 (i : Fin 256) : qi 1 i = ⟨256 + i, by omega⟩ := Fin.ext (by simp [qi])
theorem ei0 (d : Fin 64) : ei 0 d = ⟨d, by omega⟩ := Fin.ext (by simp [ei])
theorem ei1 (d : Fin 64) : ei 1 d = ⟨64 + d, by omega⟩ := Fin.ext (by simp [ei])
theorem ei2 (d : Fin 64) : ei 2 d = ⟨128 + d, by omega⟩ := Fin.ext (by simp [ei])
theorem ei3 (d : Fin 64) : ei 3 d = ⟨192 + d, by omega⟩ := Fin.ext (by simp [ei])

/-- The weight of key `j` of the device's block, for query `i` in batch `b` and head `h`. -/
def kw (c : Dev nD) (b : Fin 2) (h : Fin 4) (i j : Fin 256) : EReal :=
  Ideal.exp (Scalar.select (keep c (ix2 i j))
    ((∑ d : Fin 64, qry m ρ c (ix2 (qi b i) (ei h d)) * ldK m ρ b h c (ix4 0 j 0 d)) * Cert.Attn.scale) Cert.Attn.low)

theorem row00_at (c : Dev nD) (i : Fin 256) : row00 m ρ c (ix1 i) = ∑ j, kw m ρ c 0 0 i j := by
  simp only [kw, qi0, ei0]
  pointwise [row00, k0_pay10, k0_pay9]
  rfl
theorem row01_at (c : Dev nD) (i : Fin 256) : row01 m ρ c (ix1 i) = ∑ j, kw m ρ c 0 1 i j := by
  simp only [kw, qi0, ei1]
  pointwise [row01, k0_pay15, k0_pay14, k0_pay12, k0_pay13, zero2]
  rfl
theorem row02_at (c : Dev nD) (i : Fin 256) : row02 m ρ c (ix1 i) = ∑ j, kw m ρ c 0 2 i j := by
  simp only [kw, qi0, ei2]
  pointwise [row02, k0_pay18, k0_pay17]
  rfl
theorem row03_at (c : Dev nD) (i : Fin 256) : row03 m ρ c (ix1 i) = ∑ j, kw m ρ c 0 3 i j := by
  simp only [kw, qi0, ei3]
  pointwise [row03, k0_pay21, k0_pay20]
  rfl
theorem row10_at (c : Dev nD) (i : Fin 256) : row10 m ρ c (ix1 i) = ∑ j, kw m ρ c 1 0 i j := by
  simp only [kw, qi1, ei0]
  pointwise [row10, k0_pay24, k0_pay23]
  rfl
theorem row11_at (c : Dev nD) (i : Fin 256) : row11 m ρ c (ix1 i) = ∑ j, kw m ρ c 1 1 i j := by
  simp only [kw, qi1, ei1]
  pointwise [row11, k0_pay27, k0_pay26]
  rfl
theorem row12_at (c : Dev nD) (i : Fin 256) : row12 m ρ c (ix1 i) = ∑ j, kw m ρ c 1 2 i j := by
  simp only [kw, qi1, ei2]
  pointwise [row12, k0_pay29, k0_pay28]
  rfl
theorem row13_at (c : Dev nD) (i : Fin 256) : row13 m ρ c (ix1 i) = ∑ j, kw m ρ c 1 3 i j := by
  simp only [kw, qi1, ei3]
  pointwise [row13, k0_pay31, k0_pay30]
  rfl

/-- Head `h` of batch `b` among the eight rows of sums. -/
def ri (b : Fin 2) (h : Fin 4) : Fin 8 := ⟨4 * b + h, by omega⟩

theorem rows0_at (c : Dev nD) (b : Fin 2) (h : Fin 4) (i : Fin 256) : rows0 m ρ c (ix2 (ri b h) i) = ∑ j, kw m ρ c b h i j := by
  fin_cases b <;> fin_cases h
  · show rows0 m ρ c (ix2 0 i) = ∑ j, kw m ρ c 0 0 i j
    rw [← row00_at]; pointwise [rows0, k0_pay33, k0_pay34]
  · show rows0 m ρ c (ix2 1 i) = ∑ j, kw m ρ c 0 1 i j
    rw [← row01_at]; pointwise [rows0, k0_pay33, k0_pay34]
  · show rows0 m ρ c (ix2 2 i) = ∑ j, kw m ρ c 0 2 i j
    rw [← row02_at]; pointwise [rows0, k0_pay33, k0_pay34]
  · show rows0 m ρ c (ix2 3 i) = ∑ j, kw m ρ c 0 3 i j
    rw [← row03_at]; pointwise [rows0, k0_pay33, k0_pay34]
  · show rows0 m ρ c (ix2 4 i) = ∑ j, kw m ρ c 1 0 i j
    rw [← row10_at]; pointwise [rows0, k0_pay33, k0_pay34]
  · show rows0 m ρ c (ix2 5 i) = ∑ j, kw m ρ c 1 1 i j
    rw [← row11_at]; pointwise [rows0, k0_pay33, k0_pay34]
  · show rows0 m ρ c (ix2 6 i) = ∑ j, kw m ρ c 1 2 i j
    rw [← row12_at]; pointwise [rows0, k0_pay33, k0_pay34]
  · show rows0 m ρ c (ix2 7 i) = ∑ j, kw m ρ c 1 3 i j
    rw [← row13_at]; pointwise [rows0, k0_pay33, k0_pay34]

/-- The weighted sums of values that a device starts from. -/
theorem ctx0_at (c : Dev nD) (b : Fin 2) (h : Fin 4) (i : Fin 256) (d : Fin 64) :
    ctx0 m ρ c (ix3 b i (ei h d)) = ∑ j, kw m ρ c b h i j * ldV m ρ b h c (ix4 0 j 0 d) := by
  fin_cases b <;> fin_cases h
  · show ctx0 m ρ c (ix3 0 i (ei 0 d)) = ∑ j, kw m ρ c 0 0 i j * ldV m ρ 0 0 c (ix4 0 j 0 d)
    simp only [kw, qi0, ei0]
    pointwise [ctx0, ctxB0, k0_pay32, k0_pay22, k0_pay11, k0_pay9]
    rfl
  · show ctx0 m ρ c (ix3 0 i (ei 1 d)) = ∑ j, kw m ρ c 0 1 i j * ldV m ρ 0 1 c (ix4 0 j 0 d)
    simp only [kw, qi0, ei1]
    pointwise [ctx0, ctxB0, k0_pay32, k0_pay22, k0_pay16, k0_pay14, k0_pay12, k0_pay13, zero2]
    rfl
  · show ctx0 m ρ c (ix3 0 i (ei 2 d)) = ∑ j, kw m ρ c 0 2 i j * ldV m ρ 0 2 c (ix4 0 j 0 d)
    simp only [kw, qi0, ei2]
    pointwise [ctx0, ctxB0, k0_pay32, k0_pay22, k0_pay19, k0_pay17]
    rw [dif_neg (by omega), dif_neg (by omega), dif_pos (by omega)]
    simp only [show 128 + (d : ℕ) - 64 - 64 = d by omega]
    rfl
  · show ctx0 m ρ c (ix3 0 i (ei 3 d)) = ∑ j, kw m ρ c 0 3 i j * ldV m ρ 0 3 c (ix4 0 j 0 d)
    simp only [kw, qi0, ei3]
    pointwise [ctx0, ctxB0, k0_pay32, k0_pay22, k0_pay20]
    rw [dif_neg (by omega), dif_neg (by omega), dif_neg (by omega)]
    simp only [show 192 + (d : ℕ) - 64 - 64 - 64 = d by omega]
    rfl
  · show ctx0 m ρ c (ix3 1 i (ei 0 d)) = ∑ j, kw m ρ c 1 0 i j * ldV m ρ 1 0 c (ix4 0 j 0 d)
    simp only [kw, qi1, ei0]
    pointwise [ctx0, k0_pay32, k0_pay25, k0_pay23]
    rfl
  · show ctx0 m ρ c (ix3 1 i (ei 1 d)) = ∑ j, kw m ρ c 1 1 i j * ldV m ρ 1 1 c (ix4 0 j 0 d)
    simp only [kw, qi1, ei1]
    pointwise [ctx0, k0_pay32, k0_pay26]
    rfl
  · show ctx0 m ρ c (ix3 1 i (ei 2 d)) = ∑ j, kw m ρ c 1 2 i j * ldV m ρ 1 2 c (ix4 0 j 0 d)
    simp only [kw, qi1, ei2]
    pointwise [ctx0, k0_pay32, k0_pay28]
    rw [dif_neg (by omega), dif_neg (by omega), dif_pos (by omega)]
    simp only [show 128 + (d : ℕ) - 64 - 64 = d by omega]
    rfl
  · show ctx0 m ρ c (ix3 1 i (ei 3 d)) = ∑ j, kw m ρ c 1 3 i j * ldV m ρ 1 3 c (ix4 0 j 0 d)
    simp only [kw, qi1, ei3]
    pointwise [ctx0, k0_pay32, k0_pay30]
    rw [dif_neg (by omega), dif_neg (by omega), dif_neg (by omega)]
    simp only [show 192 + (d : ℕ) - 64 - 64 - 64 = d by omega]
    rfl

/-! ## The exchanges -/

theorem ctx1_at (c : Dev nD) (b : Fin 2) (i e : Fin 256) :
    ctx1 m ρ c (ix3 b i e) = ctx0 m ρ c (ix3 b i e) + ctx0 m ρ (partner 0 c) (ix3 b i e) := by
  pointwise [ctx1, k0_pay37, sentC0, k0_pay35]
theorem rows1_at (c : Dev nD) (r : Fin 8) (i : Fin 256) :
    rows1 m ρ c (ix2 r i) = rows0 m ρ c (ix2 r i) + rows0 m ρ (partner 0 c) (ix2 r i) := by
  pointwise [rows1, k0_pay38, sentL0, k0_pay36, rows0]
theorem ctx2_at (c : Dev nD) (b : Fin 2) (i e : Fin 256) :
    ctx2 m ρ c (ix3 b i e) = ctx1 m ρ c (ix3 b i e) + ctx1 m ρ (partner 1 c) (ix3 b i e) := by
  pointwise [ctx2, k0_pay42, k0_pay41, sentC1, k0_pay39, ctx1]
theorem rows2_at (c : Dev nD) (r : Fin 8) (i : Fin 256) :
    rows2 m ρ c (ix2 r i) = rows1 m ρ c (ix2 r i) + rows1 m ρ (partner 1 c) (ix2 r i) := by
  pointwise [rows2, k0_pay43, sentL1, k0_pay40, rows1]

/-- The weighted sums after the third exchange. -/
def ctx3 (c : Dev nD) : FVec Ideal S2x256x256 .f32 := k0_pay46 (ctx2 m ρ c) (sentC2 m ρ (partner 2 c))
/-- The reciprocals of the sums of the weights after the third exchange. -/
def recip (c : Dev nD) : FVec Ideal S8x256 .f32 := k0_pay47 (rows2 m ρ c) (sentL2 m ρ (partner 2 c))

theorem ctx3_at (c : Dev nD) (b : Fin 2) (i e : Fin 256) :
    ctx3 m ρ c (ix3 b i e) = ctx2 m ρ c (ix3 b i e) + ctx2 m ρ (partner 2 c) (ix3 b i e) := by
  pointwise [ctx3, k0_pay46, sentC2, k0_pay44, ctx2]
theorem recip_at (c : Dev nD) (r : Fin 8) (i : Fin 256) :
    recip m ρ c (ix2 r i) = Ideal.div 1 (rows2 m ρ c (ix2 r i) + rows2 m ρ (partner 2 c) (ix2 r i)) := by
  pointwise [recip, k0_pay47, sentL2, k0_pay45, rows2]

/-! ## The output -/

/-- A head's weighted sums, each times the reciprocal of its sum of weights. -/
def scaled (x : FVec Ideal S1x256x64 .f32) (r : FVec Ideal S1x256 .f32) : FVec Ideal S256x64 .f32 :=
  mulf (shapeCast S256x64 x shapeCasts_S1x256x64_S256x64)
    (broadcastTo S256x64 (shapeCast S256x1 (shapeCast S256 r shapeCasts_S1x256_S256) shapeCasts_S256_S256x1) broadcasts_S256x1_S256x64)

/-- The contexts of both batches, one under the other. -/
def flat (x : FVec Ideal S2x256x256 .f32) (r : FVec Ideal S8x256 .f32) : FVec Ideal S512x256 .f32 :=
  concatenate S512x256 0 [
    ⟨S256x256, concatenate S256x256 1 [
      ⟨S256x64, scaled (extractStridedSlice S1x256x64 ![0, 0, 0] x slices_S2x256x256_o0_0_0_S1x256x64) (extractStridedSlice S1x256 ![0, 0] r slices_S8x256_o0_0_S1x256)⟩,
      ⟨S256x64, scaled (extractStridedSlice S1x256x64 ![0, 0, 64] x slices_S2x256x256_o0_0_64_S1x256x64) (extractStridedSlice S1x256 ![1, 0] r slices_S8x256_o1_0_S1x256)⟩,
      ⟨S256x64, scaled (extractStridedSlice S1x256x64 ![0, 0, 128] x slices_S2x256x256_o0_0_128_S1x256x64) (extractStridedSlice S1x256 ![2, 0] r slices_S8x256_o2_0_S1x256)⟩,
      ⟨S256x64, scaled (extractStridedSlice S1x256x64 ![0, 0, 192] x slices_S2x256x256_o0_0_192_S1x256x64) (extractStridedSlice S1x256 ![3, 0] r slices_S8x256_o3_0_S1x256)⟩]
      concatenates_S256x64_S256x64_S256x64_S256x64_S256x256_d1⟩,
    ⟨S256x256, concatenate S256x256 1 [
      ⟨S256x64, scaled (extractStridedSlice S1x256x64 ![1, 0, 0] x slices_S2x256x256_o1_0_0_S1x256x64) (extractStridedSlice S1x256 ![4, 0] r slices_S8x256_o4_0_S1x256)⟩,
      ⟨S256x64, scaled (extractStridedSlice S1x256x64 ![1, 0, 64] x slices_S2x256x256_o1_0_64_S1x256x64) (extractStridedSlice S1x256 ![5, 0] r slices_S8x256_o5_0_S1x256)⟩,
      ⟨S256x64, scaled (extractStridedSlice S1x256x64 ![1, 0, 128] x slices_S2x256x256_o1_0_128_S1x256x64) (extractStridedSlice S1x256 ![6, 0] r slices_S8x256_o6_0_S1x256)⟩,
      ⟨S256x64, scaled (extractStridedSlice S1x256x64 ![1, 0, 192] x slices_S2x256x256_o1_0_192_S1x256x64) (extractStridedSlice S1x256 ![7, 0] r slices_S8x256_o7_0_S1x256)⟩]
      concatenates_S256x64_S256x64_S256x64_S256x64_S256x256_d1⟩]
    concatenates_S256x256_S256x256_S512x256_d0

theorem outv_eq (c : Dev nD) : outv m ρ c
    = shapeCast S2x256x512 (matmul dot_S512x256_S256x512_S512x512_1_0_0_1_n_n none (flat (ctx3 m ρ c) (recip m ρ c))
        (φ₂ := .f32) (shapeCast S256x512 (ldO m ρ c) shapeCasts_S256x512_S256x512) (constant S512x512 .f32 0x00000000#32)) shapeCasts_S512x512_S2x256x512 := rfl

theorem flat_at (x : FVec Ideal S2x256x256 .f32) (r : FVec Ideal S8x256 .f32) (b : Fin 2) (h : Fin 4) (i : Fin 256) (d : Fin 64) :
    flat x r (ix2 (qi b i) (ei h d)) = x (ix3 b i (ei h d)) * r (ix2 (ri b h) i) := by
  fin_cases b <;> fin_cases h
  · show flat x r (ix2 (qi 0 i) (ei 0 d)) = x (ix3 0 i (ei 0 d)) * r (ix2 0 i)
    simp only [qi0, ei0]
    pointwise [flat, scaled]
  · show flat x r (ix2 (qi 0 i) (ei 1 d)) = x (ix3 0 i (ei 1 d)) * r (ix2 1 i)
    simp only [qi0, ei1]
    pointwise [flat, scaled]
  · show flat x r (ix2 (qi 0 i) (ei 2 d)) = x (ix3 0 i (ei 2 d)) * r (ix2 2 i)
    simp only [qi0, ei2]
    pointwise [flat, scaled]
    rw [dif_neg (by omega), dif_neg (by omega), dif_pos (by omega)]
    simp only [show 128 + (d : ℕ) - 64 - 64 = d by omega]
  · show flat x r (ix2 (qi 0 i) (ei 3 d)) = x (ix3 0 i (ei 3 d)) * r (ix2 3 i)
    simp only [qi0, ei3]
    pointwise [flat, scaled]
    rw [dif_neg (by omega), dif_neg (by omega), dif_neg (by omega)]
    simp only [show 192 + (d : ℕ) - 64 - 64 - 64 = d by omega]
  · show flat x r (ix2 (qi 1 i) (ei 0 d)) = x (ix3 1 i (ei 0 d)) * r (ix2 4 i)
    simp only [qi1, ei0]
    pointwise [flat, scaled]
  · show flat x r (ix2 (qi 1 i) (ei 1 d)) = x (ix3 1 i (ei 1 d)) * r (ix2 5 i)
    simp only [qi1, ei1]
    pointwise [flat, scaled]
  · show flat x r (ix2 (qi 1 i) (ei 2 d)) = x (ix3 1 i (ei 2 d)) * r (ix2 6 i)
    simp only [qi1, ei2]
    pointwise [flat, scaled]
    rw [dif_neg (by omega), dif_neg (by omega), dif_pos (by omega)]
    simp only [show 128 + (d : ℕ) - 64 - 64 = d by omega]
  · show flat x r (ix2 (qi 1 i) (ei 3 d)) = x (ix3 1 i (ei 3 d)) * r (ix2 7 i)
    simp only [qi1, ei3]
    pointwise [flat, scaled]
    rw [dif_neg (by omega), dif_neg (by omega), dif_neg (by omega)]
    simp only [show 192 + (d : ℕ) - 64 - 64 - 64 = d by omega]

theorem outv_at (c : Dev nD) (b : Fin 2) (i : Fin 256) (n : Fin 512) :
    outv m ρ c (ix3 b i n)
      = ∑ e : Fin 256, (ctx3 m ρ c (ix3 b i e) * recip m ρ c (ix2 (ri b ⟨e / 64, by omega⟩) i)) * ldO m ρ c (ix2 e n) := by
  rw [outv_eq]
  have hf : ∀ e : Fin 256, flat (ctx3 m ρ c) (recip m ρ c) (ix2 (qi b i) e)
      = ctx3 m ρ c (ix3 b i e) * recip m ρ c (ix2 (ri b ⟨e / 64, by omega⟩) i) := fun e => by
    have he : e = ei ⟨e / 64, by omega⟩ ⟨e % 64, by omega⟩ := Fin.ext (by show (e : ℕ) = 64 * (e / 64) + e % 64; omega)
    conv_lhs => rw [he, flat_at, ← he]
  simp only [← hf]
  generalize flat (ctx3 m ρ c) (recip m ρ c) = f
  pointwise []
  rfl

end Cert.KernelIdeal.Net
-- ==== Proof.KernelIdealWhole.lean ====
module

public import proofs.«01_k».proof.Proof.KernelIdealValue

@[expose] public section

set_option backward.proofsInPublic true
set_option maxRecDepth 16384

noncomputable section

/-! The output of a device, as the attention of the whole arrays. -/

namespace Cert.KernelIdeal.Net

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The sum over the devices -/

/-- After the three exchanges a device holds the sum over all of them. -/
theorem sum_devices (f : Dev nD → EReal) (c : Dev nD) :
    (f c + f (partner 0 c) + (f (partner 1 c) + f (partner 0 (partner 1 c))))
      + (f (partner 2 c) + f (partner 0 (partner 2 c)) + (f (partner 1 (partner 2 c)) + f (partner 0 (partner 1 (partner 2 c)))))
      = ∑ c' : Dev nD, f c' := by
  have e : ∑ c' : Dev nD, f c' = f 0 + f 1 + f 2 + f 3 + f 4 + f 5 + f 6 + f 7 := Fin.sum_univ_eight f
  rw [e]
  have p0 : ∀ c : Dev nD, partner 0 c = ![1, 0, 3, 2, 5, 4, 7, 6] c := by decide
  have p1 : ∀ c : Dev nD, partner 1 c = ![3, 2, 1, 0, 7, 6, 5, 4] c := by decide
  have p2 : ∀ c : Dev nD, partner 2 c = ![4, 5, 6, 7, 0, 1, 2, 3] c := by decide
  fin_cases c <;> simp [p0, p1, p2] <;> abel

/-- The sum over the devices of the sums over their blocks is the sum over the whole sequence. -/
theorem sum_blocks (f : Fin 2048 → EReal) : ∑ c : Dev nD, ∑ j : Fin 256, f (key c j) = ∑ J, f J :=
  Fin.sum_mul_add_fin 8 256 f

/-! ## The queries and the weights -/

theorem qry_at (c : Dev nD) (b : Fin 2) (i e : Fin 256) :
    qry m ρ c (ix2 (qi b i) e) = Cert.Attn.query (m ((c : Thread nD τ).loc main_arg0)) (m ((c : Thread nD τ).loc main_arg1)) b i e := by
  rw [← ldX_eq m ρ, ← ldQ_eq m ρ]
  unfold Cert.Attn.query qi
  pointwise [qry, k0_pay1]

variable (x : Cert.Attn.AX) (wq : Cert.Attn.AQ) (k v : Cert.Attn.AK) (wo : Cert.Attn.AO)

/-- The devices hold the whole arrays: the same activations and projections everywhere, and each its own block of the
keys and of the values. -/
structure Holds : Prop where
  x : ∀ c : Dev nD, m ((c : Thread nD τ).loc main_arg0) = x
  wq : ∀ c : Dev nD, m ((c : Thread nD τ).loc main_arg1) = wq
  k : ∀ (c : Dev nD) (b : Fin 2) (j : Fin 256) (h : Fin 4) (d : Fin 64),
    m ((c : Thread nD τ).loc main_arg2) (ix4 b j h d) = k (ix4 b (key c j) h d)
  v : ∀ (c : Dev nD) (b : Fin 2) (j : Fin 256) (h : Fin 4) (d : Fin 64),
    m ((c : Thread nD τ).loc main_arg3) (ix4 b j h d) = v (ix4 b (key c j) h d)
  wo : ∀ c : Dev nD, m ((c : Thread nD τ).loc main_arg4) = wo

variable {x wq k v wo}

theorem kw_at (H : Holds m x wq k v wo) (c : Dev nD) (b : Fin 2) (h : Fin 4) (i j : Fin 256) :
    kw m ρ c b h i j = Ideal.exp (Cert.Attn.score x wq k b h i (key c j)) := by
  unfold kw Cert.Attn.score
  rw [keep_at]
  simp only [qry_at, ldK_at, H.x, H.wq, H.k]
  rfl

/-! ## The sums after the exchanges -/

theorem ctx3_sum (c : Dev nD) (b : Fin 2) (i e : Fin 256) : ctx3 m ρ c (ix3 b i e) = ∑ c', ctx0 m ρ c' (ix3 b i e) := by
  rw [ctx3_at, ctx2_at, ctx2_at, ctx1_at, ctx1_at, ctx1_at, ctx1_at]
  exact sum_devices (fun c' => ctx0 m ρ c' (ix3 b i e)) c

theorem rows3_sum (c : Dev nD) (r : Fin 8) (i : Fin 256) :
    rows2 m ρ c (ix2 r i) + rows2 m ρ (partner 2 c) (ix2 r i) = ∑ c', rows0 m ρ c' (ix2 r i) := by
  rw [rows2_at, rows2_at, rows1_at, rows1_at, rows1_at, rows1_at]
  exact sum_devices (fun c' => rows0 m ρ c' (ix2 r i)) c

theorem ctx3_whole (H : Holds m x wq k v wo) (c : Dev nD) (b : Fin 2) (h : Fin 4) (i : Fin 256) (d : Fin 64) :
    ctx3 m ρ c (ix3 b i (ei h d)) = Cert.Attn.wsum (Cert.Attn.score x wq k b h i) (Cert.Attn.vals v b h d) := by
  rw [ctx3_sum]
  simp only [ctx0_at, kw_at m ρ H, ldV_at, H.v]
  exact sum_blocks fun J => Ideal.exp (Cert.Attn.score x wq k b h i J) * Cert.Attn.vals v b h d J

theorem recip_whole (H : Holds m x wq k v wo) (c : Dev nD) (b : Fin 2) (h : Fin 4) (i : Fin 256) :
    recip m ρ c (ix2 (ri b h) i) = Ideal.div 1 (Cert.Attn.total (Cert.Attn.score x wq k b h i)) := by
  rw [recip_at, rows3_sum]
  simp only [rows0_at, kw_at m ρ H]
  exact congrArg (Ideal.div 1) (sum_blocks fun J => Ideal.exp (Cert.Attn.score x wq k b h i J))

/-- What every device leaves in its output is the attention of the whole arrays. -/
theorem outv_whole (H : Holds m x wq k v wo) (c : Dev nD) (b : Fin 2) (i : Fin 256) (n : Fin 512) :
    outv m ρ c (ix3 b i n) = Cert.Attn.outK x wq k v wo b i n := by
  rw [outv_at]
  unfold Cert.Attn.outK
  refine Finset.sum_congr rfl fun e _ => ?_
  have he : e = ei ⟨e / 64, by omega⟩ ⟨e % 64, by omega⟩ := Fin.ext (by show (e : ℕ) = 64 * (e / 64) + e % 64; omega)
  have h3 := ctx3_whole m ρ H c b ⟨e / 64, by omega⟩ i ⟨e % 64, by omega⟩
  rw [← he] at h3
  rw [h3, recip_whole m ρ H, ldO_eq, H.wo]
  rfl

end Cert.KernelIdeal.Net
-- ==== Proof.ReferenceValue.lean ====
module

public import proofs.«01_k».proof.Proof.Gen.ReferenceIdeal
public import proofs.«01_k».proof.Proof.Gen.ReferenceIdeal.Run
public import proofs.«01_k».proof.Proof.AttnModel
public import Idealize.ShloMosaic.Lib.Routing.OpsOrder

@[expose] public section

set_option maxRecDepth 16384

noncomputable section

/-! The value of the reference, read stage by stage. -/

namespace Cert.ReferenceIdeal.Attn

open Cert.ReferenceIdeal Cert.ReferenceIdeal.Gen
open Idealize.ShloMosaic
open Idealize.ShloMosaic.TcCoe

/-! ## The stages -/

/-- The block of each query. -/
def qblk : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The block of each key. -/
def kblk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

def qblk2 : IVec S256x2048 32 :=
  broadcastInDim S256x2048 ![0, 1] bcast_S256x1_S256x2048_0_1 (broadcastInDim S256x1 ![0] bcast_S256_S256x1_0 qblk)
def kblk2 : IVec S256x2048 32 :=
  broadcastInDim S256x2048 ![0, 1] bcast_S1x2048_S256x2048_0_1 (broadcastInDim S1x2048 ![1] bcast_S2048_S1x2048_1 kblk)
def first2 : IVec S256x2048 1 :=
  broadcastInDim S256x2048 ![0, 1] bcast_S1x2048_S256x2048_0_1
    (cmpi .eq (broadcastInDim S1x2048 ![1] bcast_S2048_S1x2048_1 kblk) (broadcastInDim S1x2048 ![] bcast_S_S1x2048 (constantI S_ 32 0#32)))

/-- The divisor of the sum of the blocks, three. -/
def three : IVec S_ 32 :=
  select (cmpi .eq (id (constantI S_ 32 3#32)) (constantI S_ 32 0#32)) (constantI S_ 32 1#32) (id (constantI S_ 32 3#32))
def rem0 : IVec S256x2048 32 := Host.remsi (addi qblk2 kblk2) (broadcastInDim S256x2048 ![] bcast_S_S256x2048 three)
def zero2 : IVec S256x2048 32 := broadcastInDim S256x2048 ![] bcast_S_S256x2048 (constantI S_ 32 0#32)
/-- The sum of the blocks modulo three. -/
def rem3 : IVec S256x2048 32 :=
  select (andi (cmpi .ne (cmpi .slt rem0 zero2) (broadcastInDim S256x2048 ![] bcast_S_S256x2048 (cmpi .slt three (constantI S_ 32 0#32))))
      (cmpi .ne rem0 zero2))
    (addi rem0 (broadcastInDim S256x2048 ![] bcast_S_S256x2048 three)) rem0

def mask2 : IVec S256x2048 1 := ori (ori (cmpi .eq qblk2 kblk2) first2) (cmpi .eq rem3 zero2)
/-- Which queries see a key at all. -/
def anyKey (mk : IVec S256x2048 1) : IVec S256 1 := Host.reduce IntOp.ori mk (constantI S_ 1 0#1) reducesTo_S256x2048_S256_d1 h_S_

def qryV (x : FVec Ideal S2x256x512 .f32) (wq : FVec Ideal S512x256 .f32) : FVec Ideal S2x256x4x64 .f32 :=
  shapeCast _ (Host.dotGeneral dot_S2x256x512_S512x256_S2x256x256_2_0_01_1_n_n none x wq) shapeCasts_S2x256x256_S2x256x4x64

def scoreV (mk : IVec S256x2048 1) (q : FVec Ideal S2x256x4x64 .f32) (k : FVec Ideal S2x2048x4x64 .f32) : FVec Ideal S2x4x256x2048 .f32 :=
  select (broadcastInDim S2x4x256x2048 ![0, 1, 2, 3] bcast_S1x1x256x2048_S2x4x256x2048_0_1_2_3
      (broadcastInDim S1x1x256x2048 ![2, 3] bcast_S256x2048_S1x1x256x2048_2_3 mk))
    (mulf (Host.dotGeneral dot_S2x256x4x64_S2x2048x4x64_S2x4x256x2048_3_3_1_1_02_02 none q k)
      (broadcastInDim S2x4x256x2048 ![] bcast_S_S2x4x256x2048 (constant S_ .f32 0x3E000000#32)))
    (broadcastInDim S2x4x256x2048 ![] bcast_S_S2x4x256x2048 (id (constant S_ .f32 0xCE6E6B28#32)))

def topV (s : FVec Ideal S2x4x256x2048 .f32) : FVec Ideal S2x4x256 .f32 :=
  Host.reduce FloatOps.maximumf s (constant S_ .f32 0xFF800000#32) reducesTo_S2x4x256x2048_S2x4x256_d3 h_S_

/-- The exponentials of the scores less the largest. -/
def expV (s : FVec Ideal S2x4x256x2048 .f32) (t : FVec Ideal S2x4x256 .f32) : FVec Ideal S2x4x256x2048 .f32 :=
  Host.exp (subf s (broadcastInDim S2x4x256x2048 ![0, 1, 2, 3] bcast_S2x4x256x1_S2x4x256x2048_0_1_2_3
    (broadcastInDim S2x4x256x1 ![0, 1, 2] bcast_S2x4x256_S2x4x256x1_0_1_2 t)))

def sumV (e : FVec Ideal S2x4x256x2048 .f32) : FVec Ideal S2x4x256 .f32 :=
  Host.reduceAdd e (constant S_ .f32 0x00000000#32) reducesTo_S2x4x256x2048_S2x4x256_d3 h_S_

/-- The weights. -/
def wgtV (a : IVec S256 1) (e : FVec Ideal S2x4x256x2048 .f32) (l : FVec Ideal S2x4x256 .f32) : FVec Ideal S2x4x256x2048 .f32 :=
  select (broadcastInDim S2x4x256x2048 ![0, 1, 2, 3] bcast_S1x1x256x1_S2x4x256x2048_0_1_2_3 (broadcastInDim S1x1x256x1 ![2] bcast_S256_S1x1x256x1_2 a))
    (Host.divf e (broadcastInDim S2x4x256x2048 ![0, 1, 2, 3] bcast_S2x4x256x1_S2x4x256x2048_0_1_2_3
      (select (broadcastInDim S2x4x256x1 ![0, 1, 2, 3] bcast_S1x1x256x1_S2x4x256x1_0_1_2_3 (broadcastInDim S1x1x256x1 ![2] bcast_S256_S1x1x256x1_2 a))
        (broadcastInDim S2x4x256x1 ![0, 1, 2] bcast_S2x4x256_S2x4x256x1_0_1_2 l)
        (broadcastInDim S2x4x256x1 ![] bcast_S_S2x4x256x1 (id (constant S_ .f32 0x3F800000#32))))))
    (broadcastInDim S2x4x256x2048 ![] bcast_S_S2x4x256x2048 (id (constant S_ .f32 0x00000000#32)))

/-- The contexts of the queries. -/
def ctxV (v : FVec Ideal S2x2048x4x64 .f32) (w : FVec Ideal S2x4x256x2048 .f32) : FVec Ideal S2x256x256 .f32 :=
  shapeCast _ (transpose S2x256x4x64 [0, 3, 1, 2] (Host.dotGeneral dot_S2x2048x4x64_S2x4x256x2048_S2x4x64x256_1_3_3_2_02_01 none v w)
    transposes_S2x4x64x256_S2x256x4x64_0_3_1_2) shapeCasts_S2x256x4x64_S2x256x256

def outV (c : FVec Ideal S2x256x256 .f32) (wo : FVec Ideal S256x512 .f32) : FVec Ideal S2x256x512 .f32 :=
  Host.dotGeneral dot_S2x256x256_S256x512_S2x256x512_2_0_01_1_n_n none c wo

/-- The scores of the whole arrays. -/
def scores (x : FVec Ideal S2x256x512 .f32) (wq : FVec Ideal S512x256 .f32) (k : FVec Ideal S2x2048x4x64 .f32) : FVec Ideal S2x4x256x2048 .f32 :=
  scoreV mask2 (qryV x wq) k
/-- The exponentials of the whole arrays. -/
def exps (s : FVec Ideal S2x4x256x2048 .f32) : FVec Ideal S2x4x256x2048 .f32 := expV s (topV s)

/-- The whole result, of the whole arrays. -/
def refV (x : FVec Ideal S2x256x512 .f32) (wq : FVec Ideal S512x256 .f32) (k v : FVec Ideal S2x2048x4x64 .f32)
    (wo : FVec Ideal S256x512 .f32) : FVec Ideal S2x256x512 .f32 :=
  outV (ctxV v (wgtV (anyKey mask2) (exps (scores x wq k)) (sumV (exps (scores x wq k))))) wo

theorem res_eq (m : (ℓ : Loc nD τ sig) → Buf (Elt Ideal) ℓ) (c : Dev nD) :
    Cert.ReferenceIdeal.Value.res_main_v44 m c
      = refV (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## The mask, at a query and a key -/

/-- The block of a position, as the words compute it. -/
def blkWord (w : BitVec 32) : BitVec 32 :=
  Scalar.select
    (IntOp.andi (IntOp.cmpi .ne (if w = 0 then (0 : BitVec 32) else if w.msb = true then -1 else 1)
        (if (64#32) = 0 then (0 : BitVec 32) else if (64#32).msb = true then -1 else 1))
      (IntOp.cmpi .ne (IntOp.remsi .host w 64#32) 0#32))
    (IntOp.subi (IntOp.divsi .host w 64#32) 1#32) (IntOp.divsi .host w 64#32)

/-- The mask of a block of queries and a block of keys, as the words compute it. -/
def maskWord (q k : BitVec 32) : BitVec 1 :=
  IntOp.ori (IntOp.ori (IntOp.cmpi .eq q k) (IntOp.cmpi .eq k 0#32))
    (IntOp.cmpi .eq
      (Scalar.select
        (IntOp.andi (IntOp.cmpi .ne (IntOp.cmpi .slt (IntOp.remsi .host (IntOp.addi q k) 3#32) 0#32) (IntOp.cmpi .slt 3#32 0#32))
          (IntOp.cmpi .ne (IntOp.remsi .host (IntOp.addi q k) 3#32) 0#32))
        (IntOp.addi (IntOp.remsi .host (IntOp.addi q k) 3#32) 3#32) (IntOp.remsi .host (IntOp.addi q k) 3#32)) 0#32)

theorem qblk_at (i : Fin 256) : qblk (ix1 i) = blkWord (BitVec.ofNat 32 i) := rfl
theorem kblk_at (J : Fin 2048) : kblk (ix1 J) = blkWord (BitVec.ofNat 32 J) := rfl

theorem blkWord_q : ∀ i : Fin 256, blkWord (BitVec.ofNat 32 i) = BitVec.ofNat 32 ((i : ℕ) / 64) := by decide +kernel
theorem blkWord_k : ∀ J : Fin 2048, blkWord (BitVec.ofNat 32 J) = BitVec.ofNat 32 ((J : ℕ) / 64) := by decide +kernel
theorem maskWord_eq : ∀ (q : Fin 4) (k : Fin 32), maskWord (BitVec.ofNat 32 q) (BitVec.ofNat 32 k) = BitVec.ofBool (Cert.Attn.live q k) := by
  decide +kernel

theorem three_eq : three ix0 = 3#32 := by decide +kernel

theorem mask2_words (i : Fin 256) (J : Fin 2048) : mask2 (ix2 i J) = maskWord (qblk (ix1 i)) (kblk (ix1 J)) := by
  pointwise [mask2, first2, rem3, rem0, zero2, kblk2, qblk2]
  simp only [three_eq]
  rfl

theorem mask2_at (i : Fin 256) (J : Fin 2048) : mask2 (ix2 i J) = Cert.Attn.mask i J := by
  rw [mask2_words, qblk_at, kblk_at, blkWord_q, blkWord_k]
  exact maskWord_eq ⟨i / 64, by omega⟩ ⟨J / 64, by omega⟩

theorem anyKey_at (i : Fin 256) : anyKey mask2 (ix1 i) = 1#1 := by
  pointwise [anyKey]
  refine (Idealize.ShloMosaic.Routing.fold_ori _ _).mpr ⟨0, Finset.mem_univ _, ?_⟩
  rw [mask2_at]
  simp [Cert.Attn.mask, Cert.Attn.live]

theorem qryV_at (x : FVec Ideal S2x256x512 .f32) (wq : FVec Ideal S512x256 .f32) (b : Fin 2) (i : Fin 256) (h : Fin 4) (d : Fin 64) :
    qryV x wq (ix4 b i h d) = Cert.Attn.query x wq b i ⟨64 * h + d, by omega⟩ := by
  pointwise [qryV]
  unfold Cert.Attn.query
  refine Finset.sum_congr rfl fun n _ => ?_
  congr 2
  exact congrArg (ix2 n) (Fin.ext (by show (h : ℕ) * 64 + d = 64 * h + d; omega))

theorem scoreV_at (mk : IVec S256x2048 1) (q : FVec Ideal S2x256x4x64 .f32) (k : FVec Ideal S2x2048x4x64 .f32)
    (b : Fin 2) (h : Fin 4) (i : Fin 256) (J : Fin 2048) :
    scoreV mk q k (ix4 b h i J) = Scalar.select (mk (ix2 i J)) ((∑ d : Fin 64, q (ix4 b i h d) * k (ix4 b J h d)) * Cert.Attn.scale) Cert.Attn.low := by
  pointwise [scoreV]
  rfl

theorem topV_at (s : FVec Ideal S2x4x256x2048 .f32) (b : Fin 2) (h : Fin 4) (i : Fin 256) :
    topV s (ix3 b h i) = Cert.Attn.top fun J => s (ix4 b h i J) := by
  pointwise [topV]
  unfold Cert.Attn.top
  rw [show Ideal.ofBits FTy.f32 4286578688#32 = (⊥ : EReal) by simp [Ideal.ofBits, Ideal.ieee]]

theorem expV_at (s : FVec Ideal S2x4x256x2048 .f32) (t : FVec Ideal S2x4x256 .f32) (b : Fin 2) (h : Fin 4) (i : Fin 256) (J : Fin 2048) :
    expV s t (ix4 b h i J) = Ideal.exp (s (ix4 b h i J) - t (ix3 b h i)) := by
  pointwise [expV]

theorem sumV_at (e : FVec Ideal S2x4x256x2048 .f32) (b : Fin 2) (h : Fin 4) (i : Fin 256) :
    sumV e (ix3 b h i) = ∑ J : Fin 2048, e (ix4 b h i J) := by
  pointwise [sumV]

theorem wgtV_at (a : IVec S256 1) (e : FVec Ideal S2x4x256x2048 .f32) (l : FVec Ideal S2x4x256 .f32)
    (b : Fin 2) (h : Fin 4) (i : Fin 256) (J : Fin 2048) (ha : a (ix1 i) = 1#1) :
    wgtV a e l (ix4 b h i J) = Ideal.div (e (ix4 b h i J)) (l (ix3 b h i)) := by
  pointwise [wgtV]
  rw [ha]
  rfl

theorem ctxV_at (v : FVec Ideal S2x2048x4x64 .f32) (w : FVec Ideal S2x4x256x2048 .f32) (b : Fin 2) (i e : Fin 256) :
    ctxV v w (ix3 b i e) = ∑ J : Fin 2048, v (ix4 b J ⟨e / 64, by omega⟩ ⟨e % 64, by omega⟩) * w (ix4 b ⟨e / 64, by omega⟩ i J) := by
  pointwise [ctxV]

theorem outV_at (c : FVec Ideal S2x256x256 .f32) (wo : FVec Ideal S256x512 .f32) (b : Fin 2) (i : Fin 256) (n : Fin 512) :
    outV c wo (ix3 b i n) = ∑ e : Fin 256, c (ix3 b i e) * wo (ix2 e n) := by
  pointwise [outV]

/-- The reference's scores are the model's. -/
theorem scores_at (x : FVec Ideal S2x256x512 .f32) (wq : FVec Ideal S512x256 .f32) (k : FVec Ideal S2x2048x4x64 .f32)
    (b : Fin 2) (h : Fin 4) (i : Fin 256) (J : Fin 2048) : scores x wq k (ix4 b h i J) = Cert.Attn.score x wq k b h i J := by
  unfold scores Cert.Attn.score
  rw [scoreV_at, mask2_at]
  simp only [qryV_at]

theorem exps_at (x : FVec Ideal S2x256x512 .f32) (wq : FVec Ideal S512x256 .f32) (k : FVec Ideal S2x2048x4x64 .f32)
    (b : Fin 2) (h : Fin 4) (i : Fin 256) (J : Fin 2048) :
    exps (scores x wq k) (ix4 b h i J)
      = Ideal.exp (Cert.Attn.score x wq k b h i J - Cert.Attn.top (Cert.Attn.score x wq k b h i)) := by
  unfold exps
  rw [expV_at, topV_at]
  simp only [scores_at]

/-- The reference's result is the model's. -/
theorem refV_at (x : FVec Ideal S2x256x512 .f32) (wq : FVec Ideal S512x256 .f32) (k v : FVec Ideal S2x2048x4x64 .f32)
    (wo : FVec Ideal S256x512 .f32) (b : Fin 2) (i : Fin 256) (n : Fin 512) :
    refV x wq k v wo (ix3 b i n) = Cert.Attn.outR x wq k v wo b i n := by
  unfold refV Cert.Attn.outR
  rw [outV_at]
  refine Finset.sum_congr rfl fun e _ => ?_
  rw [ctxV_at]
  refine congrArg (fun t : EReal => t * wo (ix2 e n)) ?_
  unfold Cert.Attn.ctxR
  refine Finset.sum_congr rfl fun J _ => ?_
  rw [wgtV_at _ _ _ _ _ _ _ (anyKey_at i), sumV_at]
  simp only [exps_at]
  rfl

end Cert.ReferenceIdeal.Attn
-- ==== Proof.Finite.lean ====
module

public import proofs.«01_k».proof.Pre_finite_KernelIdeal
public import proofs.«01_k».proof.Proof.AttnModel
public import Idealize.ShloMosaic.Lib.ReduceAll

@[expose] public section

set_option maxRecDepth 16384

noncomputable section

/-! What the precondition says: every entry of the activations, of the query projection and of a device's block of keys
is a real number. -/

namespace Cert.Pre_finite_KernelIdeal

open Idealize.ShloMosaic

theorem facts : Facts := by
  refine ⟨?_, ?_, ?_, ?_, ?_, ?_, ?_⟩ <;> decide

/-- An extended real below infinity in absolute value is a real. -/
theorem real_of_abs_lt {a : EReal} (h : Ideal.cmp .olt (max a (-a)) (Ideal.ofBits .f32 0x7F800000#32) = 1#1) : ∃ r : ℝ, a = (r : EReal) := by
  rw [show Ideal.ofBits .f32 0x7F800000#32 = (⊤ : EReal) by simp [Ideal.ofBits, Ideal.ieee]] at h
  induction a with
  | bot => simp [Ideal.cmp] at h
  | top => simp [Ideal.cmp] at h
  | coe r => exact ⟨r, rfl⟩

instance : Subsingleton S_.Idx := ⟨fun a b => funext fun i => i.elim0⟩

variable [Facts]
open Facts

theorem real_of_fn {x : FVec Ideal S2x256x512 .f32} {wq : FVec Ideal S512x256 .f32} {k v : FVec Ideal S2x256x4x64 .f32}
    {wo : FVec Ideal S256x512 .f32} (h : fn x wq k v wo = fun _ => 1#1) :
    Cert.Attn.IsReal x ∧ Cert.Attn.IsReal wq ∧ Cert.Attn.IsReal k := by
  have h0 := congrFun h ix0
  obtain ⟨h1, hk⟩ := IntOp.andi_eq_one.1 h0
  obtain ⟨hx, hq⟩ := IntOp.andi_eq_one.1 h1
  exact ⟨fun i => real_of_abs_lt (Host.reduce_andi_all _ _ _ _ _ hx i), fun i => real_of_abs_lt (Host.reduce_andi_all _ _ _ _ _ hq i),
    fun i => real_of_abs_lt (Host.reduce_andi_all _ _ _ _ _ hk i)⟩

end Cert.Pre_finite_KernelIdeal
-- ==== Proof.Algebraic.lean ====
module

public import proofs.«01_k».proof.Defs
public import proofs.«01_k».proof.Proof.KernelIdealEnd
public import proofs.«01_k».proof.Proof.KernelIdealWhole
public import proofs.«01_k».proof.Proof.ReferenceValue
public import proofs.«01_k».proof.Proof.Finite
public import Idealize.ShloMosaic.Adequacy
public import Idealize.ShloMosaic.Init

@[expose] public section

set_option maxRecDepth 16384

noncomputable section

/-! The kernel's output is the reference's, from memories that hold the same whole arrays. -/

namespace Cert.Proof

open Idealize.ShloMosaic Idealize.SL.Sem
open Idealize.ShloMosaic.TcCoe

/-- The tiling of the keys, and of the values, over the devices. -/
theorem tiles : Layout.Tiles (⟨4, ![2, 256, 4, 64]⟩ : Shape) ⟨4, ![2, 2048, 4, 64]⟩ 1 8 := by decide

/-- Device `c`'s block of a whole array of keys or values. -/
abbrev blockOf (k : Cert.Attn.AK) (c : Dev Cert.KernelIdeal.nD) : (⟨4, ![2, 256, 4, 64]⟩ : Shape).Idx → EReal :=
  Layout.block ⟨4, ![2, 256, 4, 64]⟩ ⟨4, ![2, 2048, 4, 64]⟩ 1 8 c k tiles

theorem block_at (k : Cert.Attn.AK) (c : Dev Cert.KernelIdeal.nD) (b : Fin 2) (j : Fin 256) (h : Fin 4) (d : Fin 64) :
    blockOf k c (ix4 b j h d) = k (ix4 b (Cert.KernelIdeal.Net.key c j) h d) := by
  show k (tiles.idx c (ix4 b j h d)) = _
  congr 1
  funext a
  apply Fin.ext
  fin_cases a <;> simp [Cert.KernelIdeal.Net.key, Layout.Tiles.idx]

/-- An array of keys whose blocks are real is real. -/
theorem real_of_blocks {k : Cert.Attn.AK} (h : ∀ c, Cert.Attn.IsReal (blockOf k c)) : Cert.Attn.IsReal k := by
  intro i
  idx_vars i
  obtain ⟨r, hr⟩ := h ⟨i1 / 256, by show (i1 : ℕ) / 256 < 8; omega⟩ (ix4 i0 ⟨i1 % 256, by omega⟩ i2 i3)
  rw [block_at] at hr
  refine ⟨r, ?_⟩
  rw [← hr]
  congr 2
  exact Fin.ext (by show (i1 : ℕ) = i1 / 256 * 256 + i1 % 256; omega)

instance : Cert.Pre_finite_KernelIdeal.Facts := Cert.Pre_finite_KernelIdeal.facts

theorem value : Cert.algebraic_KernelIdeal_ReferenceIdeal_pre_finite_KernelIdeal
    (hKernelIdeal := Cert.KernelIdeal.Gen.facts) (hReferenceIdeal := Cert.ReferenceIdeal.Gen.facts)
    (hPre_finite_KernelIdeal := Cert.Pre_finite_KernelIdeal.facts) := by
  intro m g m' g' hpre hm
  refine ⟨Cert.ReferenceIdeal.Value.res_main_v44 m' 0, ?_, ?_⟩
  · refine (θ_run Cert.KernelIdeal.defs _ _).mono (fun _ h c => ⟨(h.1 c).1.trans ?_, (h.1 c).2⟩)
      (Cert.KernelIdeal.Net.run_arrays (F := Ideal) m g)
    have hreal := fun c => Cert.Pre_finite_KernelIdeal.real_of_fn (hpre c)
    have hx := (hreal 0).1
    have hq := (hreal 0).2.1
    have hk := fun c => (hreal c).2.2
    rw [(hm 0).1] at hx
    rw [(hm 0).2.1] at hq
    simp only [(hm _).2.2.1] at hk
    have H : Cert.KernelIdeal.Net.Holds m _ _ _ _ _ :=
      ⟨fun c => (hm c).1, fun c => (hm c).2.1, fun c b j h d => (congrFun (hm c).2.2.1 (ix4 b j h d)).trans (block_at _ c b j h d),
        fun c b j h d => (congrFun (hm c).2.2.2.1 (ix4 b j h d)).trans (block_at _ c b j h d), fun c => (hm c).2.2.2.2⟩
    rw [Cert.ReferenceIdeal.Attn.res_eq]
    funext i
    idx_vars i
    refine (Cert.KernelIdeal.Net.outv_whole m g H c i0 i1 i2).trans ?_
    refine Eq.trans ?_ (Cert.ReferenceIdeal.Attn.refV_at _ _ _ _ _ i0 i1 i2).symm
    exact (Cert.Attn.outR_eq_outK hx hq (real_of_blocks hk) _ _ i0 i1 i2).symm
  · exact (θ_run Cert.ReferenceIdeal.defs _ _).mono (fun _ h => h 0) (Cert.ReferenceIdeal.Value.run (F := Ideal) m' g')

end Cert.Proof
-- ==== Proof.lean ====
/-
# The claims, assembled

Each kernel program's frame is its run with the result's value dropped; the reference has no semaphore at all. That the
kernel's result is the reference's is `Cert.Proof.value`.
-/
module

public import proofs.«01_k».proof.Defs
public import proofs.«01_k».proof.Proof.KernelEnd
public import proofs.«01_k».proof.Proof.KernelIdealEnd
public import proofs.«01_k».proof.Proof.Algebraic
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, keeps its arguments, and ends with every semaphore at zero. -/
theorem frame_kernel : Cert.quiescent_Kernel := fun m ρ _ =>
  (θ_run Cert.Kernel.defs _ _).mono (fun _ h => ⟨fun c => (h.1 c).2, h.2⟩) (Cert.Kernel.Net.run_arrays (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.KernelIdeal.Net.run_arrays (F := Ideal) m ρ)

/-- So does the reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The side conditions of the precondition, read at the reference's whole arrays. -/
theorem pre_reference : Cert.Pre_finite_ReferenceIdeal.Facts := by
  refine ⟨?_, ?_, ?_, ?_, ?_, ?_, ?_⟩ <;> decide

/-- The kernel's frame over the extended reals, where the inputs are finite. -/
theorem frame_ideal_pre : Cert.quiescent_KernelIdeal_pre_finite_KernelIdeal
    (hPre_finite_KernelIdeal := Cert.Pre_finite_KernelIdeal.facts) := fun m ρ _ => frame_ideal m ρ trivial

/-- The reference's frame, where the inputs are finite. -/
theorem frame_reference_pre : Cert.quiescent_ReferenceIdeal_pre_finite_ReferenceIdeal
    (hPre_finite_ReferenceIdeal := pre_reference) := fun m ρ _ => frame_reference m ρ trivial

/-- Everything that is claimed. -/
theorem claim : Cert.Claim :=
  ⟨Cert.Kernel.Gen.facts, Cert.KernelIdeal.Gen.facts, Cert.ReferenceIdeal.Gen.facts, Cert.Pre_finite_KernelIdeal.facts, pre_reference,
    frame_kernel, frame_ideal, frame_ideal_pre, frame_reference, frame_reference_pre, trivial, value⟩

end Cert.Proof
